-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v37)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v165) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16384x16384 : Shape := ⟨2, ![16384, 16384]⟩
abbrev S4x128 : Shape := ⟨2, ![4, 128]⟩
abbrev S256 : Shape := ⟨1, ![256]⟩
abbrev S_ : Shape := ⟨0, ![]⟩

class Facts : Prop where
  bitsLt_bf16_f32 : FTy.bits .bf16 < FTy.bits .f32
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S16384x16384 .bf16) (main_arg1 : FVec F S4x128 .f32) (main_arg2 : FVec F S256 .f32) : IVec S_ 1 :=
  let main_v0 : FVec F S16384x16384 .f32 := (extf .f32 · bitsLt_bf16_f32) main_arg0
  let main_v1 : FVec F S16384x16384 .f32 := Host.absf main_v0
  let main_cst : FVec F S_ .f32 := constant S_ .f32 0x7F800000#32
  let main_v2 : FVec F S16384x16384 .f32 := broadcastInDim S16384x16384 ![] bcast_S_S16384x16384 main_cst
  let main_v3 : IVec S16384x16384 1 := cmpf .olt main_v1 main_v2
  let main_c : IVec S_ 1 := constantI S_ 1 1#1
  let main_v4 : IVec S_ 1 := (fun x v => Host.reduce IntOp.andi x v reducesTo_S16384x16384_S_d0_1 h_S_) main_v3 main_c
  let main_v5 : FVec F S4x128 .f32 := Host.absf main_arg1
  let main_cst_0 : FVec F S_ .f32 := constant S_ .f32 0x7F800000#32
  let main_v6 : FVec F S4x128 .f32 := broadcastInDim S4x128 ![] bcast_S_S4x128 main_cst_0
  let main_v7 : IVec S4x128 1 := cmpf .olt main_v5 main_v6
  let main_c_1 : IVec S_ 1 := constantI S_ 1 1#1
  let main_v8 : IVec S_ 1 := (fun x v => Host.reduce IntOp.andi x v reducesTo_S4x128_S_d0_1 h_S_) main_v7 main_c_1
  let main_v9 : IVec S_ 1 := andi main_v4 main_v8
  main_v9
-- ==== Kernel.lean ====
abbrev S16384x16384 : Shape := ⟨2, ![16384, 16384]⟩
abbrev S4x128 : Shape := ⟨2, ![4, 128]⟩
abbrev S256 : Shape := ⟨1, ![256]⟩
abbrev S1x256 : Shape := ⟨2, ![1, 256]⟩
abbrev S16384x2048 : Shape := ⟨2, ![16384, 2048]⟩
abbrev S512x256 : Shape := ⟨2, ![512, 256]⟩
abbrev S8192x256 : Shape := ⟨2, ![8192, 256]⟩
abbrev S2x512x1 : Shape := ⟨3, ![2, 512, 1]⟩
abbrev S2x512x256 : Shape := ⟨3, ![2, 512, 256]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S1x128 : Shape := ⟨2, ![1, 128]⟩
abbrev S1 : Shape := ⟨1, ![1]⟩
abbrev S1x1 : Shape := ⟨2, ![1, 1]⟩

abbrev nBuf : Space → Nat
  | .hbm => 5
  | .vmem => 13
  | .smem => 0
  | _ => 0

abbrev bufTy : (tb : Table) → Fin (tcTables nBuf tb) → BufTy
  | .hbm, ⟨0, _⟩ => ⟨S16384x16384, .bf16⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S4x128, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S2x512x1, .f32⟩
  | .local _ .vmem, ⟨11, _⟩ => ⟨S2x512x1, .f32⟩
  | .local _ .vmem, ⟨12, _⟩ => ⟨S2x512x256, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg12 : BitVec 32 := Scf.iv c0_i32_10 c1_i32_11 k0_t1
  let c512_i32_88 : BitVec 32 := 512#32
  let v152 : BitVec 32 := Scalar.muli arg12 c512_i32_88
  v152
def k0_off1 (i : grid0.Coords) (k0_t1 : Fin (k0_t1_loop i).trips) : Fin 2 → Nat :=
  let c0_i32_10 : BitVec 32 := 0#32
  let c1_i32_11 : BitVec 32 := 1#32
  let arg12 : BitVec 32 := Scf.iv c0_i32_10 c1_i32_11 k0_t1
  let c512_i32_88 : BitVec 32 := 512#32
  let v152 : BitVec 32 := Scalar.muli arg12 c512_i32_88
  let v153 : BitVec 32 := v152
  let v154 : Index := Scalar.indexCast v153
  let c0_89 : Index := 0#32
  ![v154.toNat, 0]
@[reducible] def k0_t2_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_88 : BitVec 32 := 512#32
  let v152 : BitVec 32 := Scalar.muli arg12 c512_i32_88
  v152
def k0_off2 (i : grid0.Coords) (k0_t2 : Fin (k0_t2_loop i).trips) : Fin 2 → Nat :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_88 : BitVec 32 := 512#32
  let v152 : BitVec 32 := Scalar.muli arg12 c512_i32_88
  let v153 : BitVec 32 := v152
  let v154 : Index := Scalar.indexCast v153
  let c0_89 : Index := 0#32
  ![v154.toNat, 0]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off3 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_13 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x16384 : Shape := ⟨2, ![16384, 16384]⟩
abbrev S4x128 : Shape := ⟨2, ![4, 128]⟩
abbrev S256 : Shape := ⟨1, ![256]⟩
abbrev S16384x2048 : Shape := ⟨2, ![16384, 2048]⟩
abbrev S2x8192x8x2x128 : Shape := ⟨5, ![2, 8192, 8, 2, 128]⟩
abbrev S2x8192x8x256 : Shape := ⟨4, ![2, 8192, 8, 256]⟩
abbrev S2x2x8x8192x8192 : Shape := ⟨5, ![2, 2, 8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x2x8x8192 : Shape := ⟨4, ![2, 2, 8, 8192]⟩
abbrev S2x2x8x8192x1 : Shape := ⟨5, ![2, 2, 8, 8192, 1]⟩
abbrev S1x128 : Shape := ⟨2, ![1, 128]⟩
abbrev S128 : Shape := ⟨1, ![128]⟩
abbrev S1x2x8x8192x8192 : Shape := ⟨5, ![1, 2, 8, 8192, 8192]⟩
abbrev S2x8x8192x8192 : Shape := ⟨4, ![2, 8, 8192, 8192]⟩
abbrev S2x8x256x8192 : Shape := ⟨4, ![2, 8, 256, 8192]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩

abbrev nBuf : Space → Nat
  | .hbm => 85
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S4x128, .f32⟩
  | .hbm, ⟨2, _⟩ => ⟨S256, .f32⟩
  | .hbm, ⟨3, _⟩ => ⟨S16384x16384, .f32⟩
  | .hbm, ⟨4, _⟩ => ⟨S16384x2048, .f32⟩
  | .hbm, ⟨5, _⟩ => ⟨S2x8192x8x2x128, .f32⟩
  | .hbm, ⟨6, _⟩ => ⟨S16384x2048, .f32⟩
  | .hbm, ⟨7, _⟩ => ⟨S2x8192x8x2x128, .f32⟩
  | .hbm, ⟨8, _⟩ => ⟨S16384x2048, .f32⟩
  | .hbm, ⟨9, _⟩ => ⟨S2x8192x8x256, .f32⟩
  | .hbm, ⟨10, _⟩ => ⟨S2x2x8x8192x8192, .f32⟩
  | .hbm, ⟨11, _⟩ => ⟨S8192, .i32⟩
  | .hbm, ⟨12, _⟩ => ⟨S8192x1, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S2x2x8x8192x8192, .i1⟩
  | .hbm, ⟨20, _⟩ => ⟨S2x2x8x8192x8192, .f32⟩
  | .hbm, ⟨21, _⟩ => ⟨S2x2x8x8192x8192, .f32⟩
  | .hbm, ⟨22, _⟩ => ⟨S_, .f32⟩
  | .hbm, ⟨23, _⟩ => ⟨S2x2x8x8192, .f32⟩
  | .hbm, ⟨24, _⟩ => ⟨S_, .f32⟩
  | .hbm, ⟨25, _⟩ => ⟨S2x2x8x8192, .f32⟩
  | .hbm, ⟨26, _⟩ => ⟨S2x2x8x8192, .f32⟩
  | .hbm, ⟨27, _⟩ => ⟨S2x2x8x8192x1, .f32⟩
  | .hbm, ⟨28, _⟩ => ⟨S2x2x8x8192x8192, .f32⟩
  | .hbm, ⟨29, _⟩ => ⟨S2x2x8x8192x8192, .f32⟩
  | .hbm, ⟨30, _⟩ => ⟨S2x2x8x8192x8192, .f32⟩
  | .hbm, ⟨31, _⟩ => ⟨S_, .f32⟩
  | .hbm, ⟨32, _⟩ => ⟨S2x2x8x8192, .f32⟩
  | .hbm, ⟨33, _⟩ => ⟨S2x2x8x8192x1, .f32⟩
  | .hbm, ⟨34, _⟩ => ⟨S2x2x8x8192x8192, .f32⟩
  | .hbm, ⟨35, _⟩ => ⟨S2x2x8x8192x8192, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x2x8x8192x8192, .f32⟩
  | .hbm, ⟨56, _⟩ => ⟨S2x8x8192x8192, .f32⟩
  | .hbm, ⟨57, _⟩ => ⟨S1x2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x256x8192, .f32⟩
  | .hbm, ⟨63, _⟩ => ⟨S2x8192x8x256, .f32⟩
  | .hbm, ⟨64, _⟩ => ⟨S2x8192x8x256, .f32⟩
  | .hbm, ⟨65, _⟩ => ⟨S_, .f32⟩
  | .hbm, ⟨66, _⟩ => ⟨S2x8192x8, .f32⟩
  | .hbm, ⟨67, _⟩ => ⟨S2x8192x8x1, .f32⟩
  | .hbm, ⟨68, _⟩ => ⟨S_, .f32⟩
  | .hbm, ⟨69, _⟩ => ⟨S2x8192x8x1, .f32⟩
  | .hbm, ⟨70, _⟩ => ⟨S2x8192x8x1, .f32⟩
  | .hbm, ⟨71, _⟩ => ⟨S_, .f32⟩
  | .hbm, ⟨72, _⟩ => ⟨S2x8192x8x1, .f32⟩
  | .hbm, ⟨73, _⟩ => ⟨S2x8192x8x1, .f32⟩
  | .hbm, ⟨74, _⟩ => ⟨S2x8192x8x1, .f32⟩
  | .hbm, ⟨75, _⟩ => ⟨S2x8192x8x256, .f32⟩
  | .hbm, ⟨76, _⟩ => ⟨S2x8192x8x256, .f32⟩
  | .hbm, ⟨77, _⟩ => ⟨S1x1x1x256, .f32⟩
  | .hbm, ⟨78, _⟩ => ⟨S2x8192x8x256, .f32⟩
  | .hbm, ⟨79, _⟩ => ⟨S2x8192x8x256, .f32⟩
  | .hbm, ⟨80, _⟩ => ⟨S_, .f32⟩
  | .hbm, ⟨81, _⟩ => ⟨S2x8192x8x256, .f32⟩
  | .hbm, ⟨82, _⟩ => ⟨S2x8192x8x256, .f32⟩
  | .hbm, ⟨83, _⟩ => ⟨S16384x2048, .f32⟩
  | .hbm, ⟨84, _⟩ => ⟨S16384x2048, .bf16⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel2.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S16384x16384 : Shape := ⟨2, ![16384, 16384]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 11
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S16384x16384, .bf16⟩
  | .hbm, ⟨7, _⟩ => ⟨S2048x2048, .bf16⟩
  | .hbm, ⟨8, _⟩ => ⟨S1024x2048, .bf16⟩
  | .hbm, ⟨9, _⟩ => ⟨S1024x2048, .bf16⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S16384x16384 : Shape := ⟨2, ![16384, 16384]⟩
abbrev S16384x6144 : Shape := ⟨2, ![16384, 6144]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S16384x16384, .bf16⟩
  | .hbm, ⟨7, _⟩ => ⟨S16384x6144, .bf16⟩
  | .hbm, ⟨8, _⟩ => ⟨S16384x6144, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x1024, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x1024, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S16384x2048 : Shape := ⟨2, ![16384, 2048]⟩
abbrev S2048x16384 : Shape := ⟨2, ![2048, 16384]⟩
abbrev S6144 : Shape := ⟨1, ![6144]⟩
abbrev S128 : Shape := ⟨1, ![128]⟩
abbrev S256 : Shape := ⟨1, ![256]⟩
abbrev S16384x16 : Shape := ⟨2, ![16384, 16]⟩
abbrev S1x128 : Shape := ⟨2, ![1, 128]⟩
abbrev S16x128 : Shape := ⟨2, ![16, 128]⟩
abbrev S2048 : Shape := ⟨1, ![2048]⟩
abbrev S_ : Shape := ⟨0, ![]⟩
abbrev S8x128 : Shape := ⟨2, ![8, 128]⟩
abbrev S1024 : Shape := ⟨1, ![1024]⟩
abbrev S1x256 : Shape := ⟨2, ![1, 256]⟩
abbrev S4x256 : Shape := ⟨2, ![4, 256]⟩
abbrev S16384 : Shape := ⟨1, ![16384]⟩
abbrev S1x16384 : Shape := ⟨2, ![1, 16384]⟩
abbrev S10240 : Shape := ⟨1, ![10240]⟩
abbrev S16384x96 : Shape := ⟨2, ![16384, 96]⟩
abbrev S16384x128 : Shape := ⟨2, ![16384, 128]⟩
abbrev S16384x112 : Shape := ⟨2, ![16384, 112]⟩
abbrev S16384x16384 : Shape := ⟨2, ![16384, 16384]⟩
abbrev S512x2048 : Shape := ⟨2, ![512, 2048]⟩
abbrev S2048x1024 : Shape := ⟨2, ![2048, 1024]⟩
abbrev S1x1024 : Shape := ⟨2, ![1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 59
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S2048x16384, .f32⟩
  | .hbm, ⟨2, _⟩ => ⟨S6144, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S16384x16, .f32⟩
  | .hbm, ⟨9, _⟩ => ⟨S16384x16, .f32⟩
  | .hbm, ⟨10, _⟩ => ⟨S1x128, .f32⟩
  | .hbm, ⟨11, _⟩ => ⟨S16x128, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S1x128, .f32⟩
  | .hbm, ⟨17, _⟩ => ⟨S16x128, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S1x128, .f32⟩
  | .hbm, ⟨22, _⟩ => ⟨S8x128, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x128, .f32⟩
  | .hbm, ⟨28, _⟩ => ⟨S8x128, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1x256, .f32⟩
  | .hbm, ⟨33, _⟩ => ⟨S4x256, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S6144, .f32⟩
  | .hbm, ⟨40, _⟩ => ⟨S16384, .f32⟩
  | .hbm, ⟨41, _⟩ => ⟨S1x16384, .f32⟩
  | .hbm, ⟨42, _⟩ => ⟨S_, .f32⟩
  | .hbm, ⟨43, _⟩ => ⟨S10240, .f32⟩
  | .hbm, ⟨44, _⟩ => ⟨S16384, .f32⟩
  | .hbm, ⟨45, _⟩ => ⟨S1x16384, .f32⟩
  | .hbm, ⟨46, _⟩ => ⟨S_, .f32⟩
  | .hbm, ⟨47, _⟩ => ⟨S16384x96, .f32⟩
  | .hbm, ⟨48, _⟩ => ⟨S16384x128, .f32⟩
  | .hbm, ⟨49, _⟩ => ⟨S16384x16, .f32⟩
  | .hbm, ⟨50, _⟩ => ⟨S_, .f32⟩
  | .hbm, ⟨51, _⟩ => ⟨S16384x112, .f32⟩
  | .hbm, ⟨52, _⟩ => ⟨S16384x128, .f32⟩
  | .hbm, ⟨53, _⟩ => ⟨S_, .f32⟩
  | .hbm, ⟨54, _⟩ => ⟨S16384x16, .f32⟩
  | .hbm, ⟨55, _⟩ => ⟨S_, .f32⟩
  | .hbm, ⟨56, _⟩ => ⟨S16384x96, .f32⟩
  | .hbm, ⟨57, _⟩ => ⟨S16384x128, .f32⟩
  | .hbm, ⟨58, _⟩ => ⟨S16384x16384, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg0 : BitVec 32 := BitVec.ofNat 32 (i 0).val
  let c0_i32_4 : BitVec 32 := 0#32
  let v6 : BitVec 1 := Scalar.cmpi .eq arg0 c0_i32_4
  let c1_i32 : BitVec 32 := 1#32
  let v7 : BitVec 1 := Scalar.cmpi .eq arg0 c1_i32
  let v12 : BitVec 1 := Scalar.ori v6 v7
  let c2_i32 : BitVec 32 := 2#32
  let v8 : BitVec 1 := Scalar.cmpi .eq arg0 c2_i32
  let v13 : BitVec 1 := Scalar.ori v12 v8
  let c3_i32 : BitVec 32 := 3#32
  let v9 : BitVec 1 := Scalar.cmpi .eq arg0 c3_i32
  let v14 : BitVec 1 := Scalar.ori v13 v9
  let c6_i32 : BitVec 32 := 6#32
  let v10 : BitVec 1 := Scalar.cmpi .eq arg0 c6_i32
  let v15 : BitVec 1 := Scalar.ori v14 v10
  let c7_i32 : BitVec 32 := 7#32
  let v11 : BitVec 1 := Scalar.cmpi .eq arg0 c7_i32
  let v16 : BitVec 1 := Scalar.ori v15 v11
  let v19 : BitVec 32 := Scalar.extui v16
  let c0_i32_5 : BitVec 32 := 0#32
  let v20 : BitVec 1 := Scalar.cmpi .ne v19 c0_i32_5
  v20

def k0_cond3 (i : grid0.Coords) : BitVec 1 :=
  let arg0 : BitVec 32 := BitVec.ofNat 32 (i 0).val
  let c9_i32 : BitVec 32 := 9#32
  let v17 : BitVec 1 := Scalar.cmpi .eq arg0 c9_i32
  let v21 : BitVec 32 := Scalar.extui v17
  let c0_i32_6 : BitVec 32 := 0#32
  let v22 : BitVec 1 := Scalar.cmpi .ne v21 c0_i32_6
  v22

def k0_cond4 (i : grid0.Coords) : BitVec 1 :=
  let arg0 : BitVec 32 := BitVec.ofNat 32 (i 0).val
  let c10_i32 : BitVec 32 := 10#32
  let v18 : BitVec 1 := Scalar.cmpi .sge arg0 c10_i32
  let v23 : BitVec 32 := Scalar.extui v18
  let c0_i32_7 : BitVec 32 := 0#32
  let v24 : BitVec 1 := Scalar.cmpi .ne v23 c0_i32_7
  v24

def k0_cond5 (i : grid0.Coords) : BitVec 1 :=
  let arg0 : BitVec 32 := BitVec.ofNat 32 (i 0).val
  let c0_i32_4 : BitVec 32 := 0#32
  let v6 : BitVec 1 := Scalar.cmpi .eq arg0 c0_i32_4
  let c1_i32 : BitVec 32 := 1#32
  let v7 : BitVec 1 := Scalar.cmpi .eq arg0 c1_i32
  let v12 : BitVec 1 := Scalar.ori v6 v7
  let c2_i32 : BitVec 32 := 2#32
  let v8 : BitVec 1 := Scalar.cmpi .eq arg0 c2_i32
  let v13 : BitVec 1 := Scalar.ori v12 v8
  let c3_i32 : BitVec 32 := 3#32
  let v9 : BitVec 1 := Scalar.cmpi .eq arg0 c3_i32
  let v14 : BitVec 1 := Scalar.ori v13 v9
  let c6_i32 : BitVec 32 := 6#32
  let v10 : BitVec 1 := Scalar.cmpi .eq arg0 c6_i32
  let v15 : BitVec 1 := Scalar.ori v14 v10
  let c7_i32 : BitVec 32 := 7#32
  let v11 : BitVec 1 := Scalar.cmpi .eq arg0 c7_i32
  let v16 : BitVec 1 := Scalar.ori v15 v11
  let c9_i32 : BitVec 32 := 9#32
  let v17 : BitVec 1 := Scalar.cmpi .eq arg0 c9_i32
  let v25 : BitVec 1 := Scalar.ori v16 v17
  let c10_i32 : BitVec 32 := 10#32
  let v18 : BitVec 1 := Scalar.cmpi .sge arg0 c10_i32
  let v26 : BitVec 1 := Scalar.ori v25 v18
  let v_true : BitVec 1 := 1#1
  let v27 : BitVec 1 := Scalar.xori v26 v_true
  let v28 : BitVec 32 := Scalar.extui v27
  let c0_i32_8 : BitVec 32 := 0#32
  let v29 : BitVec 1 := Scalar.cmpi .ne v28 c0_i32_8
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x2048 : Shape := ⟨2, ![16384, 2048]⟩
abbrev S2048x16384 : Shape := ⟨2, ![2048, 16384]⟩
abbrev S6144 : Shape := ⟨1, ![6144]⟩
abbrev S128 : Shape := ⟨1, ![128]⟩
abbrev S256 : Shape := ⟨1, ![256]⟩
abbrev S16384x16 : Shape := ⟨2, ![16384, 16]⟩
abbrev S16384x16384 : Shape := ⟨2, ![16384, 16384]⟩
abbrev S16384x1024 : Shape := ⟨2, ![16384, 1024]⟩
abbrev S16384x6144 : Shape := ⟨2, ![16384, 6144]⟩
abbrev S16384x16x128 : Shape := ⟨3, ![16384, 16, 128]⟩
abbrev S_ : Shape := ⟨0, ![]⟩
abbrev S16384x16x1 : Shape := ⟨3, ![16384, 16, 1]⟩
abbrev S1x1x128 : Shape := ⟨3, ![1, 1, 128]⟩
abbrev S16384x16x16 : Shape := ⟨3, ![16384, 16, 16]⟩
abbrev S16384x1x16 : Shape := ⟨3, ![16384, 1, 16]⟩
abbrev S16384x16x96 : Shape := ⟨3, ![16384, 16, 96]⟩
abbrev S16384x8x128 : Shape := ⟨3, ![16384, 8, 128]⟩
abbrev S16384x8 : Shape := ⟨2, ![16384, 8]⟩
abbrev S16384x8x1 : Shape := ⟨3, ![16384, 8, 1]⟩
abbrev S16384x8x16 : Shape := ⟨3, ![16384, 8, 16]⟩
abbrev S16384x8x96 : Shape := ⟨3, ![16384, 8, 96]⟩
abbrev S16384x4x256 : Shape := ⟨3, ![16384, 4, 256]⟩
abbrev S16384x4 : Shape := ⟨2, ![16384, 4]⟩
abbrev S16384x4x1 : Shape := ⟨3, ![16384, 4, 1]⟩
abbrev S1x1x256 : Shape := ⟨3, ![1, 1, 256]⟩
abbrev S1x6144 : Shape := ⟨2, ![1, 6144]⟩

abbrev nBuf : Space → Nat
  | .hbm => 196
  | .vmem => 0
  | .smem => 0
  | _ => 0

abbrev hbmTy0_0 (i : Nat) : BufTy := match i % 128 with
  | 0 => ⟨S16384x2048, .bf16⟩
  | 1 => ⟨S2048x16384, .f32⟩
  | 2 => ⟨S6144, .f32⟩
  | 3 => ⟨S128, .f32⟩
  | 4 => ⟨S128, .f32⟩
  | 5 => ⟨S128, .f32⟩
  | 6 => ⟨S128, .f32⟩
  | 7 => ⟨S256, .f32⟩
  | 8 => ⟨S16384x16, .f32⟩
  | 9 => ⟨S16384x16, .f32⟩
  | 10 => ⟨S16384x2048, .f32⟩
  | 11 => ⟨S16384x16384, .f32⟩
  | 12 => ⟨S16384x2048, .f32⟩
  | 13 => ⟨S16384x2048, .f32⟩
  | 14 => ⟨S16384x2048, .f32⟩
  | 15 => ⟨S16384x1024, .f32⟩
  | 16 => ⟨S16384x1024, .f32⟩
  | 17 => ⟨S16384x1024, .f32⟩
  | 18 => ⟨S16384x1024, .f32⟩
  | 19 => ⟨S16384x6144, .f32⟩
  | 20 => ⟨S16384x16x128, .f32⟩
  | 21 => ⟨S16384x16x128, .f32⟩
  | 22 => ⟨S_, .f32⟩
  | 23 => ⟨S16384x16, .f32⟩
  | 24 => ⟨S16384x16x1, .f32⟩
  | 25 => ⟨S_, .f32⟩
  | 26 => ⟨S16384x16x1, .f32⟩
  | 27 => ⟨S16384x16x1, .f32⟩
  | 28 => ⟨S_, .f32⟩
  | 29 => ⟨S16384x16x1, .f32⟩
  | 30 => ⟨S16384x16x1, .f32⟩
  | 31 => ⟨S16384x16x1, .f32⟩
  | 32 => ⟨S16384x16x128, .f32⟩
  | 33 => ⟨S16384x16x128, .f32⟩
  | 34 => ⟨S1x1x128, .f32⟩
  | 35 => ⟨S16384x16x128, .f32⟩
  | 36 => ⟨S16384x16x128, .f32⟩
  | 37 => ⟨S_, .f32⟩
  | 38 => ⟨S16384x16x128, .f32⟩
  | 39 => ⟨S16384x16x128, .f32⟩
  | 40 => ⟨S16384x16x16, .f32⟩
  | 41 => ⟨S16384x16x16, .f32⟩
  | 42 => ⟨S16384x1x16, .f32⟩
  | 43 => ⟨S16384x1x16, .f32⟩
  | 44 => ⟨S16384x16x16, .f32⟩
  | 45 => ⟨S16384x16x16, .f32⟩
  | 46 => ⟨S16384x16x16, .f32⟩
  | 47 => ⟨S16384x16x16, .f32⟩
  | 48 => ⟨S16384x16x16, .f32⟩
  | 49 => ⟨S16384x16x16, .f32⟩
  | 50 => ⟨S16384x16x16, .f32⟩
  | 51 => ⟨S16384x16x16, .f32⟩
  | 52 => ⟨S16384x16x16, .f32⟩
  | 53 => ⟨S16384x16x16, .f32⟩
  | 54 => ⟨S16384x16x96, .f32⟩
  | 55 => ⟨S16384x16x128, .f32⟩
  | 56 => ⟨S16384x2048, .f32⟩
  | 57 => ⟨S16384x16x128, .f32⟩
  | 58 => ⟨S16384x16x128, .f32⟩
  | 59 => ⟨S_, .f32⟩
  | 60 => ⟨S16384x16, .f32⟩
  | 61 => ⟨S16384x16x1, .f32⟩
  | 62 => ⟨S_, .f32⟩
  | 63 => ⟨S16384x16x1, .f32⟩
  | 64 => ⟨S16384x16x1, .f32⟩
  | 65 => ⟨S_, .f32⟩
  | 66 => ⟨S16384x16x1, .f32⟩
  | 67 => ⟨S16384x16x1, .f32⟩
  | 68 => ⟨S16384x16x1, .f32⟩
  | 69 => ⟨S16384x16x128, .f32⟩
  | 70 => ⟨S16384x16x128, .f32⟩
  | 71 => ⟨S1x1x128, .f32⟩
  | 72 => ⟨S16384x16x128, .f32⟩
  | 73 => ⟨S16384x16x128, .f32⟩
  | 74 => ⟨S16384x16x16, .f32⟩
  | 75 => ⟨S16384x16x16, .f32⟩
  | 76 => ⟨S16384x1x16, .f32⟩
  | 77 => ⟨S16384x1x16, .f32⟩
  | 78 => ⟨S16384x16x16, .f32⟩
  | 79 => ⟨S16384x16x16, .f32⟩
  | 80 => ⟨S16384x16x16, .f32⟩
  | 81 => ⟨S16384x16x16, .f32⟩
  | 82 => ⟨S16384x16x16, .f32⟩
  | 83 => ⟨S16384x16x16, .f32⟩
  | 84 => ⟨S16384x16x16, .f32⟩
  | 85 => ⟨S16384x16x16, .f32⟩
  | 86 => ⟨S16384x16x16, .f32⟩
  | 87 => ⟨S16384x16x16, .f32⟩
  | 88 => ⟨S16384x16x96, .f32⟩
  | 89 => ⟨S16384x16x128, .f32⟩
  | 90 => ⟨S16384x2048, .f32⟩
  | 91 => ⟨S16384x8x128, .f32⟩
  | 92 => ⟨S16384x8x128, .f32⟩
  | 93 => ⟨S_, .f32⟩
  | 94 => ⟨S16384x8, .f32⟩
  | 95 => ⟨S16384x8x1, .f32⟩
  | 96 => ⟨S_, .f32⟩
  | 97 => ⟨S16384x8x1, .f32⟩
  | 98 => ⟨S16384x8x1, .f32⟩
  | 99 => ⟨S_, .f32⟩
  | 100 => ⟨S16384x8x1, .f32⟩
  | 101 => ⟨S16384x8x1, .f32⟩
  | 102 => ⟨S16384x8x1, .f32⟩
  | 103 => ⟨S16384x8x128, .f32⟩
  | 104 => ⟨S16384x8x128, .f32⟩
  | 105 => ⟨S1x1x128, .f32⟩
  | 106 => ⟨S16384x8x128, .f32⟩
  | 107 => ⟨S16384x8x128, .f32⟩
  | 108 => ⟨S_, .f32⟩
  | 109 => ⟨S16384x8x128, .f32⟩
  | 110 => ⟨S16384x8x128, .f32⟩
  | 111 => ⟨S16384x8x16, .f32⟩
  | 112 => ⟨S16384x8x16, .f32⟩
  | 113 => ⟨S16384x1x16, .f32⟩
  | 114 => ⟨S16384x1x16, .f32⟩
  | 115 => ⟨S16384x8x16, .f32⟩
  | 116 => ⟨S16384x8x16, .f32⟩
  | 117 => ⟨S16384x8x16, .f32⟩
  | 118 => ⟨S16384x8x16, .f32⟩
  | 119 => ⟨S16384x8x16, .f32⟩
  | 120 => ⟨S16384x8x16, .f32⟩
  | 121 => ⟨S16384x8x16, .f32⟩
  | 122 => ⟨S16384x8x16, .f32⟩
  | 123 => ⟨S16384x8x16, .f32⟩
  | 124 => ⟨S16384x8x16, .f32⟩
  | 125 => ⟨S16384x8x96, .f32⟩
  | 126 => ⟨S16384x8x128, .f32⟩
  | 127 => ⟨S16384x1024, .f32⟩
  | _ => ⟨S16384x2048, .bf16⟩

abbrev hbmTy0_1 (i : Nat) : BufTy := match i % 128 with
  | 0 => ⟨S16384x8x128, .f32⟩
  | 1 => ⟨S16384x8x128, .f32⟩
  | 2 => ⟨S_, .f32⟩
  | 3 => ⟨S16384x8, .f32⟩
  | 4 => ⟨S16384x8x1, .f32⟩
  | 5 => ⟨S_, .f32⟩
  | 6 => ⟨S16384x8x1, .f32⟩
  | 7 => ⟨S16384x8x1, .f32⟩
  | 8 => ⟨S_, .f32⟩
  | 9 => ⟨S16384x8x1, .f32⟩
  | 10 => ⟨S16384x8x1, .f32⟩
  | 11 => ⟨S16384x8x1, .f32⟩
  | 12 => ⟨S16384x8x128, .f32⟩
  | 13 => ⟨S16384x8x128, .f32⟩
  | 14 => ⟨S1x1x128, .f32⟩
  | 15 => ⟨S16384x8x128, .f32⟩
  | 16 => ⟨S16384x8x128, .f32⟩
  | 17 => ⟨S16384x8x16, .f32⟩
  | 18 => ⟨S16384x8x16, .f32⟩
  | 19 => ⟨S16384x1x16, .f32⟩
  | 20 => ⟨S16384x1x16, .f32⟩
  | 21 => ⟨S16384x8x16, .f32⟩
  | 22 => ⟨S16384x8x16, .f32⟩
  | 23 => ⟨S16384x8x16, .f32⟩
  | 24 => ⟨S16384x8x16, .f32⟩
  | 25 => ⟨S16384x8x16, .f32⟩
  | 26 => ⟨S16384x8x16, .f32⟩
  | 27 => ⟨S16384x8x16, .f32⟩
  | 28 => ⟨S16384x8x16, .f32⟩
  | 29 => ⟨S16384x8x16, .f32⟩
  | 30 => ⟨S16384x8x16, .f32⟩
  | 31 => ⟨S16384x8x96, .f32⟩
  | 32 => ⟨S16384x8x128, .f32⟩
  | 33 => ⟨S16384x1024, .f32⟩
  | 34 => ⟨S16384x4x256, .f32⟩
  | 35 => ⟨S16384x4x256, .f32⟩
  | 36 => ⟨S_, .f32⟩
  | 37 => ⟨S16384x4, .f32⟩
  | 38 => ⟨S16384x4x1, .f32⟩
  | 39 => ⟨S_, .f32⟩
  | 40 => ⟨S16384x4x1, .f32⟩
  | 41 => ⟨S16384x4x1, .f32⟩
  | 42 => ⟨S_, .f32⟩
  | 43 => ⟨S16384x4x1, .f32⟩
  | 44 => ⟨S16384x4x1, .f32⟩
  | 45 => ⟨S16384x4x1, .f32⟩
  | 46 => ⟨S16384x4x256, .f32⟩
  | 47 => ⟨S16384x4x256, .f32⟩
  | 48 => ⟨S1x1x256, .f32⟩
  | 49 => ⟨S16384x4x256, .f32⟩
  | 50 => ⟨S16384x4x256, .f32⟩
  | 51 => ⟨S_, .f32⟩
  | 52 => ⟨S16384x4x256, .f32⟩
  | 53 => ⟨S16384x4x256, .f32⟩
  | 54 => ⟨S16384x1024, .f32⟩
  | 55 => ⟨S1x6144, .f32⟩
  | 56 => ⟨S16384x6144, .f32⟩
  | 57 => ⟨S16384x6144, .f32⟩
  | 58 => ⟨S16384x6144, .f32⟩
  | 59 => ⟨S16384x6144, .f32⟩
  | 60 => ⟨S_, .f32⟩
  | 61 => ⟨S16384x6144, .f32⟩
  | 62 => ⟨S16384x6144, .f32⟩
  | 63 => ⟨S_, .f32⟩
  | 64 => ⟨S16384x6144, .f32⟩
  | 65 => ⟨S16384x6144, .f32⟩
  | 66 => ⟨S16384x16384, .f32⟩
  | 67 => ⟨S16384x16384, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_6 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_cst_8 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_10 : Ref sig .tc := ⟨.hbm, 130, rfl⟩
abbrev main_v109 : Ref sig .tc := ⟨.hbm, 131, rfl⟩
abbrev main_v110 : Ref sig .tc := ⟨.hbm, 132, rfl⟩
abbrev main_cst_11 : Ref sig .tc := ⟨.hbm, 133, rfl⟩
abbrev main_v111 : Ref sig .tc := ⟨.hbm, 134, rfl⟩
abbrev main_v112 : Ref sig .tc := ⟨.hbm, 135, rfl⟩
abbrev main_cst_12 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_cst_13 : Ref sig .tc := ⟨.hbm, 164, rfl⟩
abbrev main_v140 : Ref sig .tc := ⟨.hbm, 165, rfl⟩
abbrev main_v141 : Ref sig .tc := ⟨.hbm, 166, rfl⟩
abbrev main_cst_14 : Ref sig .tc := ⟨.hbm, 167, rfl⟩
abbrev main_v142 : Ref sig .tc := ⟨.hbm, 168, rfl⟩
abbrev main_v143 : Ref sig .tc := ⟨.hbm, 169, rfl⟩
abbrev main_cst_15 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_cst_16 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_cst_17 : Ref sig .tc := ⟨.hbm, 188, rfl⟩
abbrev main_v160 : Ref sig .tc := ⟨.hbm, 189, rfl⟩
abbrev main_v161 : Ref sig .tc := ⟨.hbm, 190, rfl⟩
abbrev main_cst_18 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩

abbrev nD : Nat := 1
abbrev τ : Topo := Topo.v7x

variable {F : FTy → Type} [FloatOps F]
-- ==== Proof.Online.lean ====
/-
  THE ONLINE SOFTMAX, AS MATHEMATICS. A row of scores is a function `s` of the key's number; a masked key has the score `⊥`. What the running maximum,
  the running normalizer and the running weighted sum hold after the first `n` keys is `top s n`, `part s 1 n` and `part s w n`; one block of keys takes
  them from `n` to `n + m` (`top_add`, `part_add`, `part_one_add`). The last section compares the quotient of the two running sums with the softmax
  taken over all keys at once.
-/
module

public import Idealize.ShloMosaic.PureOps.Ideal

@[expose] public section

noncomputable section

namespace Attn

open Idealize.ShloMosaic

/-- The largest score of the first `n` keys (`⊥` for none). -/
def top (s : ℕ → EReal) (n : ℕ) : EReal := (Finset.range n).sup s

/-- The sum of the weights `w` of the first `n` keys, each times the exponential of its score less the largest. -/
def part (s : ℕ → EReal) (w : ℕ → ℝ) (n : ℕ) : EReal :=
  ∑ j ∈ Finset.range n, Ideal.exp (s j - top s n) * (w j : EReal)

theorem le_top (s : ℕ → EReal) {n j : ℕ} (h : j < n) : s j ≤ top s n := Finset.le_sup (f := s) (Finset.mem_range.mpr h)

/-- A fold of `max` from `⊥` is the supremum. -/
theorem fold_max_eq {m : ℕ} (b : Fin m → EReal) : Finset.univ.fold max ⊥ b = Finset.univ.sup b := rfl

/-- The maximum of the first `n` keys and of the next `m` is the maximum of the first `n + m`. -/
theorem top_add (s : ℕ → EReal) (n m : ℕ) :
    max (top s n) (Finset.univ.fold max ⊥ fun x : Fin m => s (n + x.val)) = top s (n + m) := by
  rw [fold_max_eq]
  apply le_antisymm
  · refine max_le (Finset.sup_le fun j hj => le_top s ?_) (Finset.sup_le fun x _ => le_top s ?_)
    · have := Finset.mem_range.mp hj
      omega
    · omega
  · refine Finset.sup_le fun j hj => ?_
    have hj := Finset.mem_range.mp hj
    by_cases h : j < n
    · exact le_max_of_le_left (le_top s h)
    · refine le_max_of_le_right ?_
      have e : s j = (fun x : Fin m => s (n + x.val)) ⟨j - n, by omega⟩ := by
        show s j = s (n + (j - n))
        congr 1
        omega
      rw [e]
      exact Finset.le_sup (f := fun x : Fin m => s (n + x.val)) (Finset.mem_univ _)

theorem top_zero (s : ℕ → EReal) : top s 0 = ⊥ := rfl

theorem part_zero (s : ℕ → EReal) (w : ℕ → ℝ) : part s w 0 = 0 := rfl

theorem top_mono (s : ℕ → EReal) {n m : ℕ} (h : n ≤ m) : top s n ≤ top s m :=
  Finset.sup_mono fun _ hj => Finset.mem_range.mpr (lt_of_lt_of_le (Finset.mem_range.mp hj) h)

/-- No score is `⊤`, so neither is the largest. -/
theorem top_ne_top (s : ℕ → EReal) (hs : ∀ j, s j ≠ ⊤) (n : ℕ) : top s n ≠ ⊤ := by
  refine ne_of_lt ((Finset.sup_lt_iff (by exact bot_lt_top)).mpr fun j _ => lt_top_iff_ne_top.mpr (hs j))

/-- The exponential of a score less a bound of it, as a real number. -/
def wt (s m : EReal) : ℝ := if s = ⊥ then 0 else Real.exp (s.toReal - m.toReal)

theorem exp_sub_eq {s m : EReal} (h : s ≤ m) (hm : m ≠ ⊤) : Ideal.exp (s - m) = (wt s m : EReal) := by
  induction s with
  | bot =>
    rw [wt, if_pos rfl, EReal.bot_sub]
    rfl
  | top => exact absurd (top_le_iff.mp h) hm
  | coe x =>
    induction m with
    | bot => exact absurd (le_bot_iff.mp h) (EReal.coe_ne_bot x)
    | top => exact absurd rfl hm
    | coe y =>
      rw [wt, if_neg (EReal.coe_ne_bot x), EReal.toReal_coe, EReal.toReal_coe, ← EReal.coe_sub]
      rfl

/-- Rescaling: the weight of a score below `m`, taken from `m` to a larger `m'`. -/
theorem wt_mul_wt {s m m' : EReal} (h : s ≤ m) (h' : m ≤ m') (hm : m' ≠ ⊤) : wt m m' * wt s m = wt s m' := by
  by_cases hs : s = ⊥
  · simp [wt, hs]
  · have hmb : m ≠ ⊥ := fun e => hs (le_bot_iff.mp (e ▸ h))
    rw [wt, wt, wt, if_neg hs, if_neg hmb, if_neg hs, ← Real.exp_add]
    congr 1
    ring

theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A sum of weighted exponentials against any bound of the scores is a real number. -/
theorem sum_exp_eq (s : ℕ → EReal) (w : ℕ → ℝ) (n : ℕ) {m : EReal} (h : ∀ j < n, s j ≤ m) (hm : m ≠ ⊤) :
    ∑ j ∈ Finset.range n, Ideal.exp (s j - m) * (w j : EReal) = ((∑ j ∈ Finset.range n, wt (s j) m * w j : ℝ) : EReal) := by
  rw [coe_sum]
  refine Finset.sum_congr rfl fun j hj => ?_
  rw [exp_sub_eq (h j (Finset.mem_range.mp hj)) hm, EReal.coe_mul]

theorem part_eq (s : ℕ → EReal) (hs : ∀ j, s j ≠ ⊤) (w : ℕ → ℝ) (n : ℕ) :
    part s w n = ((∑ j ∈ Finset.range n, wt (s j) (top s n) * w j : ℝ) : EReal) :=
  sum_exp_eq s w n (fun _ h => le_top s h) (top_ne_top s hs n)

/-- One block of keys: the running sum rescaled to the new maximum, plus the block's own terms. -/
theorem part_add (s : ℕ → EReal) (hs : ∀ j, s j ≠ ⊤) (w : ℕ → ℝ) (n m : ℕ) :
    Ideal.exp (top s n - top s (n + m)) * part s w n
        + ∑ x : Fin m, Ideal.exp (s (n + x.val) - top s (n + m)) * (w (n + x.val) : EReal)
      = part s w (n + m) := by
  have hle : top s n ≤ top s (n + m) := top_mono s (Nat.le_add_right n m)
  have hT := top_ne_top s hs (n + m)
  have h1 : Ideal.exp (top s n - top s (n + m)) * part s w n
      = ∑ j ∈ Finset.range n, Ideal.exp (s j - top s (n + m)) * (w j : EReal) := by
    rw [part_eq s hs, exp_sub_eq hle hT, ← EReal.coe_mul, sum_exp_eq s w n (fun j h => (le_top s h).trans hle) hT, Finset.mul_sum]
    congr 1
    refine Finset.sum_congr rfl fun j hj => ?_
    rw [← mul_assoc, wt_mul_wt (le_top s (Finset.mem_range.mp hj)) hle hT]
  rw [h1, part, Finset.sum_range_add, Finset.sum_range (n := m)]

/-- The same for the normalizer, whose weights are all one. -/
theorem part_one_add (s : ℕ → EReal) (hs : ∀ j, s j ≠ ⊤) (n m : ℕ) :
    Ideal.exp (top s n - top s (n + m)) * part s (fun _ => 1) n + ∑ x : Fin m, Ideal.exp (s (n + x.val) - top s (n + m))
      = part s (fun _ => 1) (n + m) := by
  rw [← part_add s hs (fun _ => 1) n m]
  simp only [EReal.coe_one, mul_one]

/-! ## Against the softmax over all keys at once -/

/-- Masked keys past the first `n` do not move the maximum, -/
theorem top_extend (s : ℕ → EReal) {n N : ℕ} (h : n ≤ N) (hb : ∀ j, n ≤ j → j < N → s j = ⊥) : top s N = top s n := by
  refine le_antisymm (Finset.sup_le fun j hj => ?_) (top_mono s h)
  by_cases hn : j < n
  · exact le_top s hn
  · rw [hb j (by omega) (Finset.mem_range.mp hj)]
    exact bot_le

/-- nor the sums. -/
theorem part_extend (s : ℕ → EReal) (hs : ∀ j, s j ≠ ⊤) (w : ℕ → ℝ) {n N : ℕ} (h : n ≤ N) (hb : ∀ j, n ≤ j → j < N → s j = ⊥) :
    part s w N = part s w n := by
  rw [part_eq s hs, part_eq s hs, top_extend s h hb]
  congr 1
  symm
  refine Finset.sum_subset (Finset.range_subset_range.mpr h) fun j hj hn => ?_
  rw [Finset.mem_range] at hj hn
  rw [hb j (by omega) hj, wt, if_pos rfl, zero_mul]

theorem wt_nonneg (s m : EReal) : 0 ≤ wt s m := by
  unfold wt
  split
  · exact le_rfl
  · exact (Real.exp_pos _).le

/-- With one key unmasked the normalizer is positive. -/
theorem norm_pos (s : ℕ → EReal) {N j : ℕ} (hj : j < N) (hb : s j ≠ ⊥) (m : EReal) :
    0 < ∑ i ∈ Finset.range N, wt (s i) m := by
  refine Finset.sum_pos' (fun i _ => wt_nonneg _ _) ⟨j, Finset.mem_range.mpr hj, ?_⟩
  rw [wt, if_neg hb]
  exact Real.exp_pos _

/-- The softmax of the row at key `j`, over the first `N` keys. -/
def soft (s : ℕ → EReal) (N j : ℕ) : EReal :=
  Ideal.div (Ideal.exp (s j - top s N)) (∑ i : Fin N, Ideal.exp (s i.val - top s N))

/-- The same as a real number. -/
def softR (s : ℕ → EReal) (N j : ℕ) : ℝ := wt (s j) (top s N) * (1 / ∑ i ∈ Finset.range N, wt (s i) (top s N))

theorem soft_eq (s : ℕ → EReal) (hs : ∀ j, s j ≠ ⊤) {N j₀ : ℕ} (hj : j₀ < N) (hb : s j₀ ≠ ⊥) {j : ℕ} (h : j < N) :
    soft s N j = (softR s N j : EReal) := by
  have hsum : ∑ i : Fin N, Ideal.exp (s i.val - top s N) = ((∑ i ∈ Finset.range N, wt (s i) (top s N) : ℝ) : EReal) := by
    rw [coe_sum, ← Finset.sum_range (fun i => Ideal.exp (s i - top s N))]
    exact Finset.sum_congr rfl fun i hi => exp_sub_eq (le_top s (Finset.mem_range.mp hi)) (top_ne_top s hs N)
  rw [soft, hsum, Ideal.div_coe (norm_pos s hj hb _).ne', exp_sub_eq (le_top s h) (top_ne_top s hs N), ← EReal.coe_mul, softR]

/-- The quotient of the running sums is the softmax's weighted mean. -/
theorem quot_eq (s : ℕ → EReal) (hs : ∀ j, s j ≠ ⊤) (w : ℕ → ℝ) {n N j₀ : ℕ} (h : n ≤ N) (hb : ∀ j, n ≤ j → j < N → s j = ⊥)
    (hj : j₀ < N) (hb₀ : s j₀ ≠ ⊥) :
    Ideal.div (part s w n) (part s (fun _ => 1) n) = ((∑ j ∈ Finset.range N, softR s N j * w j : ℝ) : EReal) := by
  rw [← part_extend s hs w h hb, ← part_extend s hs _ h hb, part_eq s hs, part_eq s hs]
  simp only [mul_one]
  rw [Ideal.div_coe (norm_pos s hj hb₀ _).ne', ← EReal.coe_mul, Finset.sum_mul]
  congr 1
  refine Finset.sum_congr rfl fun j _ => ?_
  rw [softR]
  ring

/-- The difference of the two maps' weighted means, the second scaled by `lam`, is the weighted mean under the difference of the maps. -/
theorem diff_eq (s t : ℕ → EReal) (hs : ∀ j, s j ≠ ⊤) (ht : ∀ j, t j ≠ ⊤) (w : ℕ → ℝ) (lam : ℝ) {n N j₀ : ℕ} (h : n ≤ N)
    (hbs : ∀ j, n ≤ j → j < N → s j = ⊥) (hbt : ∀ j, n ≤ j → j < N → t j = ⊥) (hj : j₀ < N) (hs₀ : s j₀ ≠ ⊥) (ht₀ : t j₀ ≠ ⊥) :
    Ideal.div (part s w n) (part s (fun _ => 1) n) - (lam : EReal) * Ideal.div (part t w n) (part t (fun _ => 1) n)
      = ∑ j : Fin N, (w j.val : EReal) * (soft s N j.val - (lam : EReal) * soft t N j.val) := by
  rw [quot_eq s hs w h hbs hj hs₀, quot_eq t ht w h hbt hj ht₀, ← EReal.coe_mul, ← EReal.coe_sub, Finset.mul_sum, ← Finset.sum_sub_distrib,
    coe_sum, Finset.sum_range]
  refine Finset.sum_congr rfl fun j _ => ?_
  rw [soft_eq s hs hj hs₀ j.isLt, soft_eq t ht hj ht₀ j.isLt, ← EReal.coe_mul, ← EReal.coe_sub, ← EReal.coe_mul]
  congr 1
  ring

end Attn

end
-- ==== Proof.Score.lean ====
/-
  THE SCORES OF ONE QUERY BLOCK. One grid point of the attention holds 512 query rows `Q` (two heads of 128 columns side by side) and the whole sequence's
  keys `K` and values `V`. `score Q K b o r` is row `r`'s score against each key, for the query block number `b` and the head whose columns start at
  `o`: the dot product of the two rows, `⊥` for a key after the query. `Run … n M L A` says that the three scratch buffers hold what the online softmax
  holds after the first `n` keys, for both heads.
-/
module

public import proofs.«01_k».proof.Proof.Online
public import proofs.«01_k».proof.Proof.Gen.KernelIdeal.Value
public import Idealize.ShloMosaic.Lib.Pointwise

@[expose] public section

noncomputable section

namespace Attn

open Idealize.ShloMosaic Cert.KernelIdeal

/-- The dot product of query row `r` and key row `j`, over the 128 columns from `o`. -/
def raw (Q : S512x256.Idx → EReal) (K : S8192x256.Idx → EReal) (o : ℕ) (ho : o + 128 ≤ 256) (r : Fin 512) (j : Fin 8192) : EReal :=
  ∑ x : Fin 128, Q (ix2 r ⟨o + x.val, by omega⟩) * K (ix2 j ⟨o + x.val, by omega⟩)

/-- The score of key number `j`, which only keys up to the query's own position have. -/
def score (Q : S512x256.Idx → EReal) (K : S8192x256.Idx → EReal) (b o : ℕ) (ho : o + 128 ≤ 256) (r : Fin 512) (j : ℕ) : EReal :=
  if h : j < 8192 ∧ j ≤ 512 * b + r.val then raw Q K o ho r ⟨j, h.1⟩ else ⊥

/-- Column `d` of the values, as real numbers, by the key's number. -/
def vcol (V : S8192x256.Idx → EReal) (d : Fin 256) (j : ℕ) : ℝ := if h : j < 8192 then (V (ix2 ⟨j, h⟩ d)).toReal else 0

/-- An array all of whose elements are real numbers. -/
def Fin' {s : Shape} (X : s.Idx → EReal) : Prop := ∀ j, X j ≠ ⊤ ∧ X j ≠ ⊥

theorem Fin'.coe {s : Shape} {X : s.Idx → EReal} (h : Fin' X) (j : s.Idx) : ((X j).toReal : EReal) = X j :=
  EReal.coe_toReal (h j).1 (h j).2

theorem raw_coe {Q : S512x256.Idx → EReal} {K : S8192x256.Idx → EReal} (hQ : Fin' Q) (hK : Fin' K) (o : ℕ) (ho : o + 128 ≤ 256) (r : Fin 512)
    (j : Fin 8192) : ∃ x : ℝ, raw Q K o ho r j = (x : EReal) := by
  refine ⟨∑ x : Fin 128, (Q (ix2 r ⟨o + x.val, by omega⟩)).toReal * (K (ix2 j ⟨o + x.val, by omega⟩)).toReal, ?_⟩
  rw [coe_sum, raw]
  refine Finset.sum_congr rfl fun x _ => ?_
  rw [EReal.coe_mul, hQ.coe, hK.coe]

theorem score_ne_top {Q : S512x256.Idx → EReal} {K : S8192x256.Idx → EReal} (hQ : Fin' Q) (hK : Fin' K) (b o : ℕ) (ho : o + 128 ≤ 256) (r : Fin 512)
    (j : ℕ) : score Q K b o ho r j ≠ ⊤ := by
  unfold score
  split
  · obtain ⟨x, hx⟩ := raw_coe hQ hK o ho r ⟨j, by omega⟩
    rw [hx]
    exact EReal.coe_ne_top x
  · exact bot_ne_top

theorem score_ne_bot {Q : S512x256.Idx → EReal} {K : S8192x256.Idx → EReal} (hQ : Fin' Q) (hK : Fin' K) (b o : ℕ) (ho : o + 128 ≤ 256) (r : Fin 512)
    {j : ℕ} (h : j < 8192 ∧ j ≤ 512 * b + r.val) : score Q K b o ho r j ≠ ⊥ := by
  rw [score, dif_pos h]
  obtain ⟨x, hx⟩ := raw_coe hQ hK o ho r ⟨j, h.1⟩
  rw [hx]
  exact EReal.coe_ne_bot x

theorem score_bot (Q : S512x256.Idx → EReal) (K : S8192x256.Idx → EReal) (b o : ℕ) (ho : o + 128 ≤ 256) (r : Fin 512) {j : ℕ} (h : 512 * b + r.val < j) :
    score Q K b o ho r j = ⊥ := by
  rw [score, dif_neg (by omega)]

theorem vcol_coe {V : S8192x256.Idx → EReal} (hV : Fin' V) (d : Fin 256) (j : Fin 8192) : (vcol V d j.val : EReal) = V (ix2 j d) := by
  rw [vcol, dif_pos j.isLt]
  exact hV.coe _

/-- What the scratch buffers hold after the first `n` keys: the running maximum `M`, normalizer `L` and weighted sum `A` of both heads. -/
structure Run (Q : S512x256.Idx → EReal) (K V : S8192x256.Idx → EReal) (b n : ℕ) (M L : S2x512x1.Idx → EReal) (A : S2x512x256.Idx → EReal) : Prop where
  m0 : ∀ r : Fin 512, M (ix3 0 r 0) = top (score Q K b 0 (by omega) r) n
  m1 : ∀ r : Fin 512, M (ix3 1 r 0) = top (score Q K b 128 (by omega) r) n
  l0 : ∀ r : Fin 512, L (ix3 0 r 0) = part (score Q K b 0 (by omega) r) (fun _ => 1) n
  l1 : ∀ r : Fin 512, L (ix3 1 r 0) = part (score Q K b 128 (by omega) r) (fun _ => 1) n
  a0 : ∀ (r : Fin 512) (d : Fin 256), A (ix3 0 r d) = part (score Q K b 0 (by omega) r) (vcol V d) n
  a1 : ∀ (r : Fin 512) (d : Fin 256), A (ix3 1 r d) = part (score Q K b 128 (by omega) r) (vcol V d) n

end Attn

end
-- ==== Proof.Trip.lean ====
/-
  ONE TRIP OF THE LOOP, READ: from the buffers' contents after `512 * k` keys to their contents after `512 * k + 512`.
-/
module

public import proofs.«01_k».proof.Proof.Score
public import Idealize.ShloMosaic.Lib.Pipeline.ValueKit
public import Idealize.ShloMosaic.Lib.WritesUnit
public import Idealize.ShloMosaic.Lib.Tactic.RunNames

@[expose] public section

set_option maxRecDepth 16384

noncomputable section

namespace Attn

open Cert.KernelIdeal Cert.KernelIdeal.Gen Idealize.ShloMosaic Idealize.ShloMosaic.TcCoe Idealize.SL.Sem

/-- The loop runs once per earlier query block. -/
theorem trips_eq (i : grid0.Coords) : (k0_t1_loop i).trips = (i 2).val := by
  have key : ∀ j : Fin 16, Scf.trips (0#32) (Scalar.addi 0#32 (Scalar.muli (Scalar.divsi (Scalar.subi (BitVec.ofNat 32 j.val) 0#32) 1#32) 1#32)) 1#32 = j.val := by
    decide +kernel
  exact key (i 2)

theorem bits_neg_inf : Ideal.ofBits FTy.f32 0xFF800000#32 = ⊥ := by simp [Ideal.ofBits, Ideal.ieee]

/-- A key of an earlier block is before every query of this block. -/
theorem score_earlier (Q : S512x256.Idx → EReal) (K : S8192x256.Idx → EReal) (b o : ℕ) (ho : o + 128 ≤ 256) (r : Fin 512) {k : ℕ} (hk : k < b)
    (hb : b < 16) (x : Fin 512) :
    score Q K b o ho r (512 * k + x.val)
      = ∑ y : Fin 128, Q (ix2 r ⟨o + y.val, by omega⟩) * K (ix2 ⟨512 * k + x.val, by omega⟩ ⟨o + y.val, by omega⟩) := by
  rw [score, dif_pos (by omega), raw]

variable (c : Dev nD) (i : grid0.Coords)
  (arg3 : Memref sig Kind.tc Space.vmem S512x256 EltTy.bf16)
  (arg4 arg5 : Memref sig Kind.tc Space.vmem S8192x256 EltTy.bf16)
  (arg6 : Memref sig Kind.tc Space.vmem S4x128 EltTy.f32)
  (arg7 : Memref sig Kind.tc Space.vmem S1x256 EltTy.f32)
  (arg8 : Memref sig Kind.tc Space.vmem S512x256 EltTy.bf16)
  (arg9 arg10 : Memref sig Kind.tc Space.vmem S2x512x1 EltTy.f32)
  (arg11 : Memref sig Kind.tc Space.vmem S2x512x256 EltTy.f32)
  (h3 : arg3.IsWhole) (h4 : arg4.IsWhole) (h5 : arg5.IsWhole) (h6 : arg6.IsWhole) (h7 : arg7.IsWhole) (h8 : arg8.IsWhole)
  (h9 : arg9.IsWhole) (h10 : arg10.IsWhole) (h11 : arg11.IsWhole)
  (X3 : BufTy.Contents (Elt Ideal) arg3.view.ty) (X4 : BufTy.Contents (Elt Ideal) arg4.view.ty)
  (X5 : BufTy.Contents (Elt Ideal) arg5.view.ty)
  (k : Fin (k0_t1_loop i).trips)
  (f9 : BufTy.Contents (Elt Ideal) arg9.view.ty) (f10 : BufTy.Contents (Elt Ideal) arg10.view.ty)
  (f11 : BufTy.Contents (Elt Ideal) arg11.view.ty)

theorem tripM0 (hQ : Fin' (View.read (Elt Ideal) arg3.view X3)) (hK : Fin' (View.read (Elt Ideal) arg4.view X4))
    (hV : Fin' (View.read (Elt Ideal) arg5.view X5))
    (H : Run (View.read (Elt Ideal) arg3.view X3) (View.read (Elt Ideal) arg4.view X4) (View.read (Elt Ideal) arg5.view X5) (i 2).val (512 * k.val)
      (View.read (Elt Ideal) arg9.view f9) (View.read (Elt Ideal) arg10.view f10) (View.read (Elt Ideal) arg11.view f11))
    (r : Fin 512) :
    View.read (Elt Ideal) arg9.view (arg9.view.writes (Elt Ideal) f9 (tripL_k0_t1 Variants.none c none i arg3 h3 arg4 h4 arg5 h5 arg6 h6 arg7 h7 arg8 h8 arg9 h9 arg10 h10 arg11 h11 X3 X4 X5 k f9 f10 f11).1) (ix3 0 r 0)
      = top (score (View.read (Elt Ideal) arg3.view X3) (View.read (Elt Ideal) arg4.view X4) (i 2).val 0 (by omega) r) (512 * k.val + 512) := by
  have hb : (i 2).val < 16 := (i 2).isLt
  have hk : k.val < (i 2).val := trips_eq i ▸ k.isLt
  unfold tripL_k0_t1 trip_k0_t1
  dsimp only
  rw [View.read_writes_cons_unit_of_not_mem arg9.view f9 _ _ _ _ rfl 0 (Or.inl (by exact Nat.zero_lt_one))]
  refine (View.read_writes_cons_unit_of_mem arg9.view f9 _ _ _ _ (ix3 0 r 0) rfl (fun a => by fin_cases a <;> simp [ix3])).trans ?_
  sl_unfold_run_names
  simp only [View.readAt_eq_ld]
  revert H hQ hK hV
  generalize View.read (Elt Ideal) arg3.view X3 = Q
  generalize View.read (Elt Ideal) arg4.view X4 = K
  generalize View.read (Elt Ideal) arg5.view X5 = V
  generalize View.read (Elt Ideal) arg9.view f9 = M
  generalize View.read (Elt Ideal) arg10.view f10 = L
  generalize View.read (Elt Ideal) arg11.view f11 = A
  intro hQ hK hV H
  unfold_payloads
  pointwise
  have ho : k0_off1 i k 0 = 512 * k.val := congrFun (k0_off1_eq i k) 0
  have ho' : k0_off1 i k 1 = 0 := congrFun (k0_off1_eq i k) 1
  simp only [ho, ho', Nat.zero_add, Fin.eta]
  rw [← top_add, H.m0, bits_neg_inf]
  simp only [score_earlier Q K (i 2).val 0 (by omega) r hk (i 2).isLt]
  simp only [Nat.zero_add]

theorem tripM1 (hQ : Fin' (View.read (Elt Ideal) arg3.view X3)) (hK : Fin' (View.read (Elt Ideal) arg4.view X4))
    (hV : Fin' (View.read (Elt Ideal) arg5.view X5))
    (H : Run (View.read (Elt Ideal) arg3.view X3) (View.read (Elt Ideal) arg4.view X4) (View.read (Elt Ideal) arg5.view X5) (i 2).val (512 * k.val)
      (View.read (Elt Ideal) arg9.view f9) (View.read (Elt Ideal) arg10.view f10) (View.read (Elt Ideal) arg11.view f11))
    (r : Fin 512) :
    View.read (Elt Ideal) arg9.view (arg9.view.writes (Elt Ideal) f9 (tripL_k0_t1 Variants.none c none i arg3 h3 arg4 h4 arg5 h5 arg6 h6 arg7 h7 arg8 h8 arg9 h9 arg10 h10 arg11 h11 X3 X4 X5 k f9 f10 f11).1) (ix3 1 r 0)
      = top (score (View.read (Elt Ideal) arg3.view X3) (View.read (Elt Ideal) arg4.view X4) (i 2).val 128 (by omega) r) (512 * k.val + 512) := by
  have hb : (i 2).val < 16 := (i 2).isLt
  have hk : k.val < (i 2).val := trips_eq i ▸ k.isLt
  unfold tripL_k0_t1 trip_k0_t1
  dsimp only
  refine (View.read_writes_cons_unit_of_mem arg9.view f9 _ _ _ _ (ix3 0 r 0) rfl (fun a => by fin_cases a <;> simp [ix3])).trans ?_
  sl_unfold_run_names
  simp only [View.readAt_eq_ld]
  revert H hQ hK hV
  generalize View.read (Elt Ideal) arg3.view X3 = Q
  generalize View.read (Elt Ideal) arg4.view X4 = K
  generalize View.read (Elt Ideal) arg5.view X5 = V
  generalize View.read (Elt Ideal) arg9.view f9 = M
  generalize View.read (Elt Ideal) arg10.view f10 = L
  generalize View.read (Elt Ideal) arg11.view f11 = A
  intro hQ hK hV H
  unfold_payloads
  pointwise
  have ho : k0_off1 i k 0 = 512 * k.val := congrFun (k0_off1_eq i k) 0
  have ho' : k0_off1 i k 1 = 0 := congrFun (k0_off1_eq i k) 1
  simp only [ho, ho', Nat.zero_add, Fin.eta]
  rw [← top_add, H.m1, bits_neg_inf]
  simp only [score_earlier Q K (i 2).val 128 (by omega) r hk (i 2).isLt]

theorem tripL0 (hQ : Fin' (View.read (Elt Ideal) arg3.view X3)) (hK : Fin' (View.read (Elt Ideal) arg4.view X4))
    (hV : Fin' (View.read (Elt Ideal) arg5.view X5))
    (H : Run (View.read (Elt Ideal) arg3.view X3) (View.read (Elt Ideal) arg4.view X4) (View.read (Elt Ideal) arg5.view X5) (i 2).val (512 * k.val)
      (View.read (Elt Ideal) arg9.view f9) (View.read (Elt Ideal) arg10.view f10) (View.read (Elt Ideal) arg11.view f11))
    (r : Fin 512) :
    View.read (Elt Ideal) arg10.view (arg10.view.writes (Elt Ideal) f10 (tripL_k0_t1 Variants.none c none i arg3 h3 arg4 h4 arg5 h5 arg6 h6 arg7 h7 arg8 h8 arg9 h9 arg10 h10 arg11 h11 X3 X4 X5 k f9 f10 f11).2.1) (ix3 0 r 0)
      = part (score (View.read (Elt Ideal) arg3.view X3) (View.read (Elt Ideal) arg4.view X4) (i 2).val 0 (by omega) r) (fun _ => 1) (512 * k.val + 512) := by
  have hb : (i 2).val < 16 := (i 2).isLt
  have hk : k.val < (i 2).val := trips_eq i ▸ k.isLt
  unfold tripL_k0_t1 trip_k0_t1
  dsimp only
  rw [View.read_writes_cons_unit_of_not_mem arg10.view f10 _ _ _ _ rfl 0 (Or.inl (by exact Nat.zero_lt_one))]
  refine (View.read_writes_cons_unit_of_mem arg10.view f10 _ _ _ _ (ix3 0 r 0) rfl (fun a => by fin_cases a <;> simp [ix3])).trans ?_
  sl_unfold_run_names
  simp only [View.readAt_eq_ld]
  revert H hQ hK hV
  generalize View.read (Elt Ideal) arg3.view X3 = Q
  generalize View.read (Elt Ideal) arg4.view X4 = K
  generalize View.read (Elt Ideal) arg5.view X5 = V
  generalize View.read (Elt Ideal) arg9.view f9 = M
  generalize View.read (Elt Ideal) arg10.view f10 = L
  generalize View.read (Elt Ideal) arg11.view f11 = A
  intro hQ hK hV H
  unfold_payloads
  pointwise
  have ho : k0_off1 i k 0 = 512 * k.val := congrFun (k0_off1_eq i k) 0
  have ho' : k0_off1 i k 1 = 0 := congrFun (k0_off1_eq i k) 1
  simp only [ho, ho', Nat.zero_add, Fin.eta]
  rw [← part_one_add _ (score_ne_top hQ hK _ _ _ _), ← top_add, H.m0, H.l0, bits_neg_inf]
  simp only [score_earlier Q K (i 2).val 0 (by omega) r hk (i 2).isLt]
  simp only [Nat.zero_add]

theorem tripL1 (hQ : Fin' (View.read (Elt Ideal) arg3.view X3)) (hK : Fin' (View.read (Elt Ideal) arg4.view X4))
    (hV : Fin' (View.read (Elt Ideal) arg5.view X5))
    (H : Run (View.read (Elt Ideal) arg3.view X3) (View.read (Elt Ideal) arg4.view X4) (View.read (Elt Ideal) arg5.view X5) (i 2).val (512 * k.val)
      (View.read (Elt Ideal) arg9.view f9) (View.read (Elt Ideal) arg10.view f10) (View.read (Elt Ideal) arg11.view f11))
    (r : Fin 512) :
    View.read (Elt Ideal) arg10.view (arg10.view.writes (Elt Ideal) f10 (tripL_k0_t1 Variants.none c none i arg3 h3 arg4 h4 arg5 h5 arg6 h6 arg7 h7 arg8 h8 arg9 h9 arg10 h10 arg11 h11 X3 X4 X5 k f9 f10 f11).2.1) (ix3 1 r 0)
      = part (score (View.read (Elt Ideal) arg3.view X3) (View.read (Elt Ideal) arg4.view X4) (i 2).val 128 (by omega) r) (fun _ => 1) (512 * k.val + 512) := by
  have hb : (i 2).val < 16 := (i 2).isLt
  have hk : k.val < (i 2).val := trips_eq i ▸ k.isLt
  unfold tripL_k0_t1 trip_k0_t1
  dsimp only
  refine (View.read_writes_cons_unit_of_mem arg10.view f10 _ _ _ _ (ix3 0 r 0) rfl (fun a => by fin_cases a <;> simp [ix3])).trans ?_
  sl_unfold_run_names
  simp only [View.readAt_eq_ld]
  revert H hQ hK hV
  generalize View.read (Elt Ideal) arg3.view X3 = Q
  generalize View.read (Elt Ideal) arg4.view X4 = K
  generalize View.read (Elt Ideal) arg5.view X5 = V
  generalize View.read (Elt Ideal) arg9.view f9 = M
  generalize View.read (Elt Ideal) arg10.view f10 = L
  generalize View.read (Elt Ideal) arg11.view f11 = A
  intro hQ hK hV H
  unfold_payloads
  pointwise
  have ho : k0_off1 i k 0 = 512 * k.val := congrFun (k0_off1_eq i k) 0
  have ho' : k0_off1 i k 1 = 0 := congrFun (k0_off1_eq i k) 1
  simp only [ho, ho', Nat.zero_add, Fin.eta]
  rw [← part_one_add _ (score_ne_top hQ hK _ _ _ _), ← top_add, H.m1, H.l1, bits_neg_inf]
  simp only [score_earlier Q K (i 2).val 128 (by omega) r hk (i 2).isLt]

theorem tripA0 (hQ : Fin' (View.read (Elt Ideal) arg3.view X3)) (hK : Fin' (View.read (Elt Ideal) arg4.view X4))
    (hV : Fin' (View.read (Elt Ideal) arg5.view X5))
    (H : Run (View.read (Elt Ideal) arg3.view X3) (View.read (Elt Ideal) arg4.view X4) (View.read (Elt Ideal) arg5.view X5) (i 2).val (512 * k.val)
      (View.read (Elt Ideal) arg9.view f9) (View.read (Elt Ideal) arg10.view f10) (View.read (Elt Ideal) arg11.view f11))
    (r : Fin 512) (d : Fin 256) :
    View.read (Elt Ideal) arg11.view (arg11.view.writes (Elt Ideal) f11 (tripL_k0_t1 Variants.none c none i arg3 h3 arg4 h4 arg5 h5 arg6 h6 arg7 h7 arg8 h8 arg9 h9 arg10 h10 arg11 h11 X3 X4 X5 k f9 f10 f11).2.2) (ix3 0 r d)
      = part (score (View.read (Elt Ideal) arg3.view X3) (View.read (Elt Ideal) arg4.view X4) (i 2).val 0 (by omega) r) (vcol (View.read (Elt Ideal) arg5.view X5) d) (512 * k.val + 512) := by
  have hb : (i 2).val < 16 := (i 2).isLt
  have hk : k.val < (i 2).val := trips_eq i ▸ k.isLt
  unfold tripL_k0_t1 trip_k0_t1
  dsimp only
  rw [View.read_writes_cons_unit_of_not_mem arg11.view f11 _ _ _ _ rfl 0 (Or.inl (by exact Nat.zero_lt_one))]
  refine (View.read_writes_cons_unit_of_mem arg11.view f11 _ _ _ _ (ix3 0 r d) rfl (fun a => by fin_cases a <;> simp [ix3])).trans ?_
  sl_unfold_run_names
  simp only [View.readAt_eq_ld]
  revert H hQ hK hV
  generalize View.read (Elt Ideal) arg3.view X3 = Q
  generalize View.read (Elt Ideal) arg4.view X4 = K
  generalize View.read (Elt Ideal) arg5.view X5 = V
  generalize View.read (Elt Ideal) arg9.view f9 = M
  generalize View.read (Elt Ideal) arg10.view f10 = L
  generalize View.read (Elt Ideal) arg11.view f11 = A
  intro hQ hK hV H
  unfold_payloads
  pointwise
  have ho : k0_off1 i k 0 = 512 * k.val := congrFun (k0_off1_eq i k) 0
  have ho' : k0_off1 i k 1 = 0 := congrFun (k0_off1_eq i k) 1
  simp only [ho, ho', Nat.zero_add, Fin.eta]
  rw [← part_add _ (score_ne_top hQ hK _ _ _ _), ← top_add, H.m0, H.a0, bits_neg_inf]
  simp only [score_earlier Q K (i 2).val 0 (by omega) r hk (i 2).isLt]
  have hv : ∀ x : Fin 512, (vcol V d (512 * k.val + x.val) : EReal) = V (ix2 ⟨512 * k.val + x.val, by omega⟩ d) := fun x =>
    vcol_coe hV d ⟨512 * k.val + x.val, by omega⟩
  simp only [hv, Nat.zero_add]

theorem tripA1 (hQ : Fin' (View.read (Elt Ideal) arg3.view X3)) (hK : Fin' (View.read (Elt Ideal) arg4.view X4))
    (hV : Fin' (View.read (Elt Ideal) arg5.view X5))
    (H : Run (View.read (Elt Ideal) arg3.view X3) (View.read (Elt Ideal) arg4.view X4) (View.read (Elt Ideal) arg5.view X5) (i 2).val (512 * k.val)
      (View.read (Elt Ideal) arg9.view f9) (View.read (Elt Ideal) arg10.view f10) (View.read (Elt Ideal) arg11.view f11))
    (r : Fin 512) (d : Fin 256) :
    View.read (Elt Ideal) arg11.view (arg11.view.writes (Elt Ideal) f11 (tripL_k0_t1 Variants.none c none i arg3 h3 arg4 h4 arg5 h5 arg6 h6 arg7 h7 arg8 h8 arg9 h9 arg10 h10 arg11 h11 X3 X4 X5 k f9 f10 f11).2.2) (ix3 1 r d)
      = part (score (View.read (Elt Ideal) arg3.view X3) (View.read (Elt Ideal) arg4.view X4) (i 2).val 128 (by omega) r) (vcol (View.read (Elt Ideal) arg5.view X5) d) (512 * k.val + 512) := by
  have hb : (i 2).val < 16 := (i 2).isLt
  have hk : k.val < (i 2).val := trips_eq i ▸ k.isLt
  unfold tripL_k0_t1 trip_k0_t1
  dsimp only
  refine (View.read_writes_cons_unit_of_mem arg11.view f11 _ _ _ _ (ix3 0 r d) rfl (fun a => by fin_cases a <;> simp [ix3])).trans ?_
  sl_unfold_run_names
  simp only [View.readAt_eq_ld]
  revert H hQ hK hV
  generalize View.read (Elt Ideal) arg3.view X3 = Q
  generalize View.read (Elt Ideal) arg4.view X4 = K
  generalize View.read (Elt Ideal) arg5.view X5 = V
  generalize View.read (Elt Ideal) arg9.view f9 = M
  generalize View.read (Elt Ideal) arg10.view f10 = L
  generalize View.read (Elt Ideal) arg11.view f11 = A
  intro hQ hK hV H
  unfold_payloads
  pointwise
  have ho : k0_off1 i k 0 = 512 * k.val := congrFun (k0_off1_eq i k) 0
  have ho' : k0_off1 i k 1 = 0 := congrFun (k0_off1_eq i k) 1
  simp only [ho, ho', Nat.zero_add, Fin.eta]
  rw [← part_add _ (score_ne_top hQ hK _ _ _ _), ← top_add, H.m1, H.a1, bits_neg_inf]
  simp only [score_earlier Q K (i 2).val 128 (by omega) r hk (i 2).isLt]
  have hv : ∀ x : Fin 512, (vcol V d (512 * k.val + x.val) : EReal) = V (ix2 ⟨512 * k.val + x.val, by omega⟩ d) := fun x =>
    vcol_coe hV d ⟨512 * k.val + x.val, by omega⟩
  simp only [hv, Nat.zero_add]

end Attn

end
-- ==== Proof.Diag.lean ====
/-
  THE DIAGONAL STEP, READ: the block of keys at the queries' own positions, of which row `r` sees the first `r + 1`. The normalizer and the weighted sum
  of both heads, from what the buffers held after the earlier blocks.
-/
module

public import proofs.«01_k».proof.Proof.Trip
public import Idealize.ShloMosaic.Lib.WordCmp

@[expose] public section

set_option maxRecDepth 16384

noncomputable section

namespace Attn

open Cert.KernelIdeal Cert.KernelIdeal.Gen Idealize.ShloMosaic Idealize.ShloMosaic.TcCoe Idealize.SL.Sem

variable (i : grid0.Coords) (Q : S512x256.Idx → EReal) (K V : S8192x256.Idx → EReal) (M L : S2x512x1.Idx → EReal) (A : S2x512x256.Idx → EReal)

/-- The mask constant stands for `⊥`. -/
theorem mask_eq : (Named.named (F := Ideal) κ "mask" 0xF149F2CA#32 : Ideal FTy.f32) = ⊥ := rfl

/-- A key of the queries' own block is seen where its number is at most the query's. -/
theorem score_diag (b o : ℕ) (ho : o + 128 ≤ 256) (hb : b < 16) (r x : Fin 512) :
    score Q K b o ho r (512 * b + x.val)
      = Scalar.select (IntOp.cmpi CmpIPredicate.sge (BitVec.ofNat 32 r.val) (BitVec.ofNat 32 x.val))
          (∑ y : Fin 128, Q (ix2 r ⟨o + y.val, by omega⟩) * K (ix2 ⟨512 * b + x.val, by omega⟩ ⟨o + y.val, by omega⟩))
          (Named.named (F := Ideal) κ "mask" 0xF149F2CA#32 : Ideal FTy.f32) := by
  rw [Idealize.ShloMosaic.WordCmp.cmpi_sge_ofNat (by have := r.isLt; omega) (by have := x.isLt; omega), mask_eq]
  by_cases h : x.val ≤ r.val
  · rw [score, dif_pos (by omega), raw, decide_eq_true h]
    rfl
  · rw [score, dif_neg (by omega), decide_eq_false h]
    rfl

theorem diagL0 (hQ : Fin' Q) (hK : Fin' K) (H : Run Q K V (i 2).val (512 * (i 2).val) M L A) (r : Fin 512) :
    k0_pay48 (F := Ideal) (k0_pay41 (View.ld K (Rect.unit (s := S8192x256) (k0_off3 i) S512x256.size (k0_off3_inb i))) (View.ld Q (Rect.unit (s := S512x256) ![0, 0] S512x128.size inb_S512x256_S512x128_0_0))) k0_pay42
      (View.ld M (Rect.unit (s := S2x512x1) ![0, 0, 0] S1x512x1.size inb_S2x512x1_S1x512x1_0_0_0)) (View.ld L (Rect.unit (s := S2x512x1) ![0, 0, 0] S1x512x1.size inb_S2x512x1_S1x512x1_0_0_0)) (ix3 0 r 0)
    = part (score Q K (i 2).val 0 (by omega) r) (fun _ => 1) (512 * (i 2).val + 512) := by
  have hb : (i 2).val < 16 := (i 2).isLt
  unfold_payloads
  pointwise
  have ho : k0_off3 i 0 = 512 * (i 2).val := congrFun (k0_off3_eq i) 0
  have ho' : k0_off3 i 1 = 0 := congrFun (k0_off3_eq i) 1
  simp only [ho, ho', Nat.zero_add, Fin.eta]
  rw [← part_one_add _ (score_ne_top hQ hK _ _ _ _), ← top_add, H.m0, H.l0, bits_neg_inf]
  simp only [score_diag Q K (i 2).val 0 (by omega) hb r, Nat.zero_add]

theorem diagL1 (hQ : Fin' Q) (hK : Fin' K) (H : Run Q K V (i 2).val (512 * (i 2).val) M L A) (r : Fin 512) :
    k0_pay56 (F := Ideal) (View.ld K (Rect.unit (s := S8192x256) (k0_off3 i) S512x256.size (k0_off3_inb i))) (View.ld Q (Rect.unit (s := S512x256) ![0, 128] S512x128.size inb_S512x256_S512x128_0_128))
      (View.ld M (Rect.unit (s := S2x512x1) ![1, 0, 0] S1x512x1.size inb_S2x512x1_S1x512x1_1_0_0)) (View.ld L (Rect.unit (s := S2x512x1) ![1, 0, 0] S1x512x1.size inb_S2x512x1_S1x512x1_1_0_0)) (ix3 0 r 0)
    = part (score Q K (i 2).val 128 (by omega) r) (fun _ => 1) (512 * (i 2).val + 512) := by
  have hb : (i 2).val < 16 := (i 2).isLt
  unfold_payloads
  pointwise
  have ho : k0_off3 i 0 = 512 * (i 2).val := congrFun (k0_off3_eq i) 0
  have ho' : k0_off3 i 1 = 0 := congrFun (k0_off3_eq i) 1
  simp only [ho, ho', Nat.zero_add, Fin.eta]
  rw [← part_one_add _ (score_ne_top hQ hK _ _ _ _), ← top_add, H.m1, H.l1, bits_neg_inf]
  simp only [score_diag Q K (i 2).val 128 (by omega) hb r, Nat.zero_add]

theorem diagA0 (hQ : Fin' Q) (hK : Fin' K) (hV : Fin' V) (H : Run Q K V (i 2).val (512 * (i 2).val) M L A) (r : Fin 512) (d : Fin 256) :
    k0_pay49 (F := Ideal) (View.ld V (Rect.unit (s := S8192x256) (k0_off3 i) S512x256.size (k0_off3_inb i))) (k0_pay41 (View.ld K (Rect.unit (s := S8192x256) (k0_off3 i) S512x256.size (k0_off3_inb i))) (View.ld Q (Rect.unit (s := S512x256) ![0, 0] S512x128.size inb_S512x256_S512x128_0_0))) k0_pay42
      (View.ld M (Rect.unit (s := S2x512x1) ![0, 0, 0] S1x512x1.size inb_S2x512x1_S1x512x1_0_0_0)) (View.ld A (Rect.unit (s := S2x512x256) ![0, 0, 0] S1x512x256.size inb_S2x512x256_S1x512x256_0_0_0)) (ix3 0 r d)
    = part (score Q K (i 2).val 0 (by omega) r) (vcol V d) (512 * (i 2).val + 512) := by
  have hb : (i 2).val < 16 := (i 2).isLt
  unfold_payloads
  pointwise
  have ho : k0_off3 i 0 = 512 * (i 2).val := congrFun (k0_off3_eq i) 0
  have ho' : k0_off3 i 1 = 0 := congrFun (k0_off3_eq i) 1
  simp only [ho, ho', Nat.zero_add, Fin.eta]
  rw [← part_add _ (score_ne_top hQ hK _ _ _ _), ← top_add, H.m0, H.a0, bits_neg_inf]
  have hv : ∀ x : Fin 512, (vcol V d (512 * (i 2).val + x.val) : EReal) = V (ix2 ⟨512 * (i 2).val + x.val, by omega⟩ d) := fun x =>
    vcol_coe hV d ⟨512 * (i 2).val + x.val, by omega⟩
  simp only [score_diag Q K (i 2).val 0 (by omega) hb r, hv, Nat.zero_add]

theorem diagA1 (hQ : Fin' Q) (hK : Fin' K) (hV : Fin' V) (H : Run Q K V (i 2).val (512 * (i 2).val) M L A) (r : Fin 512) (d : Fin 256) :
    k0_pay57 (F := Ideal) (View.ld K (Rect.unit (s := S8192x256) (k0_off3 i) S512x256.size (k0_off3_inb i))) (View.ld V (Rect.unit (s := S8192x256) (k0_off3 i) S512x256.size (k0_off3_inb i))) (View.ld Q (Rect.unit (s := S512x256) ![0, 128] S512x128.size inb_S512x256_S512x128_0_128))
      (View.ld M (Rect.unit (s := S2x512x1) ![1, 0, 0] S1x512x1.size inb_S2x512x1_S1x512x1_1_0_0)) (View.ld A (Rect.unit (s := S2x512x256) ![1, 0, 0] S1x512x256.size inb_S2x512x256_S1x512x256_1_0_0)) (ix3 0 r d)
    = part (score Q K (i 2).val 128 (by omega) r) (vcol V d) (512 * (i 2).val + 512) := by
  have hb : (i 2).val < 16 := (i 2).isLt
  unfold_payloads
  pointwise
  have ho : k0_off3 i 0 = 512 * (i 2).val := congrFun (k0_off3_eq i) 0
  have ho' : k0_off3 i 1 = 0 := congrFun (k0_off3_eq i) 1
  simp only [ho, ho', Nat.zero_add, Fin.eta]
  rw [← part_add _ (score_ne_top hQ hK _ _ _ _), ← top_add, H.m1, H.a1, bits_neg_inf]
  have hv : ∀ x : Fin 512, (vcol V d (512 * (i 2).val + x.val) : EReal) = V (ix2 ⟨512 * (i 2).val + x.val, by omega⟩ d) := fun x =>
    vcol_coe hV d ⟨512 * (i 2).val + x.val, by omega⟩
  simp only [score_diag Q K (i 2).val 128 (by omega) hb r, hv, Nat.zero_add]

end Attn

end
-- ==== Proof.Loop.lean ====
/-
  THE LOOP, READ: by induction over its trips, the three buffers hold the running maximum, normalizer and weighted sum over the keys of the trips done;
  the second loop (which would hold the masked blocks before the last) makes no trip.
-/
module

public import proofs.«01_k».proof.Proof.Diag

@[expose] public section

set_option maxRecDepth 16384

noncomputable section

namespace Attn

open Cert.KernelIdeal Cert.KernelIdeal.Gen Idealize.ShloMosaic Idealize.ShloMosaic.TcCoe Idealize.SL.Sem

/-- Before the first trip: maximum `⊥`, normalizer and weighted sum zero. -/
theorem run_zero (Q : S512x256.Idx → EReal) (K V : S8192x256.Idx → EReal) (b : ℕ) (M L : S2x512x1.Idx → EReal) (A : S2x512x256.Idx → EReal)
    (hM : ∀ x, M x = ⊥) (hL : ∀ x, L x = 0) (hA : ∀ x, A x = 0) : Run Q K V b 0 M L A where
  m0 r := by rw [hM, top_zero]
  m1 r := by rw [hM, top_zero]
  l0 r := by rw [hL, part_zero]
  l1 r := by rw [hL, part_zero]
  a0 r d := by rw [hA, part_zero]
  a1 r d := by rw [hA, part_zero]

variable (c : Dev nD) (i : grid0.Coords)
  (arg3 : Memref sig Kind.tc Space.vmem S512x256 EltTy.bf16)
  (arg4 arg5 : Memref sig Kind.tc Space.vmem S8192x256 EltTy.bf16)
  (arg6 : Memref sig Kind.tc Space.vmem S4x128 EltTy.f32)
  (arg7 : Memref sig Kind.tc Space.vmem S1x256 EltTy.f32)
  (arg8 : Memref sig Kind.tc Space.vmem S512x256 EltTy.bf16)
  (arg9 arg10 : Memref sig Kind.tc Space.vmem S2x512x1 EltTy.f32)
  (arg11 : Memref sig Kind.tc Space.vmem S2x512x256 EltTy.f32)
  (h3 : arg3.IsWhole) (h4 : arg4.IsWhole) (h5 : arg5.IsWhole) (h6 : arg6.IsWhole) (h7 : arg7.IsWhole) (h8 : arg8.IsWhole)
  (h9 : arg9.IsWhole) (h10 : arg10.IsWhole) (h11 : arg11.IsWhole)
  (X3 : BufTy.Contents (Elt Ideal) arg3.view.ty) (X4 : BufTy.Contents (Elt Ideal) arg4.view.ty)
  (X5 : BufTy.Contents (Elt Ideal) arg5.view.ty)
  (G9 : BufTy.Contents (Elt Ideal) arg9.view.ty) (G10 : BufTy.Contents (Elt Ideal) arg10.view.ty) (G11 : BufTy.Contents (Elt Ideal) arg11.view.ty)

/-- After `n` trips the buffers stand for the first `512 * n` keys. -/
theorem loop_run (hQ : Fin' (View.read (Elt Ideal) arg3.view X3)) (hK : Fin' (View.read (Elt Ideal) arg4.view X4)) (hV : Fin' (View.read (Elt Ideal) arg5.view X5))
    (H : Run (View.read (Elt Ideal) arg3.view X3) (View.read (Elt Ideal) arg4.view X4) (View.read (Elt Ideal) arg5.view X5) (i 2).val 0
      (View.read (Elt Ideal) arg9.view G9) (View.read (Elt Ideal) arg10.view G10) (View.read (Elt Ideal) arg11.view G11))
    (n : ℕ) (hn : n ≤ (i 2).val) :
    Run (View.read (Elt Ideal) arg3.view X3) (View.read (Elt Ideal) arg4.view X4) (View.read (Elt Ideal) arg5.view X5) (i 2).val (512 * n)
      (View.read (Elt Ideal) arg9.view (arg9.view.writes (Elt Ideal) G9 (pb_k0_t1 Variants.none c none i arg3 h3 arg4 h4 arg5 h5 arg6 h6 arg7 h7 arg8 h8 arg9 h9 arg10 h10 arg11 h11 X3 X4 X5 G9 G10 G11 n).1))
      (View.read (Elt Ideal) arg10.view (arg10.view.writes (Elt Ideal) G10 (pb_k0_t1 Variants.none c none i arg3 h3 arg4 h4 arg5 h5 arg6 h6 arg7 h7 arg8 h8 arg9 h9 arg10 h10 arg11 h11 X3 X4 X5 G9 G10 G11 n).2.1))
      (View.read (Elt Ideal) arg11.view (arg11.view.writes (Elt Ideal) G11 (pb_k0_t1 Variants.none c none i arg3 h3 arg4 h4 arg5 h5 arg6 h6 arg7 h7 arg8 h8 arg9 h9 arg10 h10 arg11 h11 X3 X4 X5 G9 G10 G11 n).2.2)) := by
  induction n with
  | zero => exact H
  | succ n ih =>
    have ih := ih (by omega)
    have e := pb_k0_t1_succ (F := Ideal) Variants.none c none i arg3 h3 arg4 h4 arg5 h5 arg6 h6 arg7 h7 arg8 h8 arg9 h9 arg10 h10 arg11 h11 X3 X4 X5 G9 G10 G11 ⟨n, (trips_eq i).symm ▸ hn⟩
    dsimp only at e
    rw [e]
    dsimp only
    rw [View.writes_append, View.writes_append, View.writes_append]
    exact {
      m0 := fun r => tripM0 c i arg3 arg4 arg5 arg6 arg7 arg8 arg9 arg10 arg11 h3 h4 h5 h6 h7 h8 h9 h10 h11 X3 X4 X5 ⟨n, _⟩ _ _ _ hQ hK hV ih r
      m1 := fun r => tripM1 c i arg3 arg4 arg5 arg6 arg7 arg8 arg9 arg10 arg11 h3 h4 h5 h6 h7 h8 h9 h10 h11 X3 X4 X5 ⟨n, _⟩ _ _ _ hQ hK hV ih r
      l0 := fun r => tripL0 c i arg3 arg4 arg5 arg6 arg7 arg8 arg9 arg10 arg11 h3 h4 h5 h6 h7 h8 h9 h10 h11 X3 X4 X5 ⟨n, _⟩ _ _ _ hQ hK hV ih r
      l1 := fun r => tripL1 c i arg3 arg4 arg5 arg6 arg7 arg8 arg9 arg10 arg11 h3 h4 h5 h6 h7 h8 h9 h10 h11 X3 X4 X5 ⟨n, _⟩ _ _ _ hQ hK hV ih r
      a0 := fun r d => tripA0 c i arg3 arg4 arg5 arg6 arg7 arg8 arg9 arg10 arg11 h3 h4 h5 h6 h7 h8 h9 h10 h11 X3 X4 X5 ⟨n, _⟩ _ _ _ hQ hK hV ih r d
      a1 := fun r d => tripA1 c i arg3 arg4 arg5 arg6 arg7 arg8 arg9 arg10 arg11 h3 h4 h5 h6 h7 h8 h9 h10 h11 X3 X4 X5 ⟨n, _⟩ _ _ _ hQ hK hV ih r d }

/-- The second loop makes no trip. -/
theorem trips2_eq (i : grid0.Coords) : Scf.trips (k0_t2_loop i).lb (k0_t2_loop i).ub (k0_t2_loop i).st = 0 := by
  have key : ∀ j : Fin 16, Scf.trips (Scalar.addi 0#32 (Scalar.muli (Scalar.divsi (Scalar.subi (BitVec.ofNat 32 j.val) 0#32) 1#32) 1#32))
      (Scalar.addi 0#32 (Scalar.subi (BitVec.ofNat 32 j.val) 0#32)) 1#32 = 0 := by
    decide +kernel
  exact key (i 2)

end Attn

end
-- ==== Proof.Sums.lean ====
/-
  THE TWO HEADS' SUMS, READ: what the body loads from its buffers after the masked block, namely the normalizers and the weighted sums over the first
  `512 * b + 512` keys of query block `b`.
-/
module

public import proofs.«01_k».proof.Proof.Loop
public import Idealize.ShloMosaic.Lib.Pipeline.ReadBack
public import Idealize.ShloMosaic.Lib.Tactic.RunNames

@[expose] public section

set_option maxRecDepth 16384

noncomputable section

namespace Attn

open Cert.KernelIdeal Cert.KernelIdeal.Gen Idealize.ShloMosaic Idealize.ShloMosaic.TcCoe Idealize.SL.Sem

/-- A covered load reads what the written buffer holds there. -/
theorem readCov_eq_ld {κ : Kind} {sp : Space} {s : Shape} {e : EltTy} (v : View sig κ sp s e) (L : List (View.Piece (Elt Ideal) s e)) (r : Rect s) :
    v.readCov L r.toLoadRect = View.ld (View.read (Elt Ideal) v (v.writes (Elt Ideal) v.junk L)) r := rfl

theorem bits_zero : Ideal.ofBits FTy.f32 0x00000000#32 = 0 := by simp [Ideal.ofBits, Ideal.ieee]

/-- A buffer filled whole reads the fill. -/
theorem read_fill1 (v : View sig Kind.tc Space.vmem S2x512x1 EltTy.f32) (Z : S2x512x1.Idx → EReal) :
    View.read (Elt Ideal) v (v.writes (Elt Ideal) v.junk [⟨Rect.unit (s := S2x512x1) ![0, 0, 0] S2x512x1.size inb_S2x512x1_S2x512x1_0_0_0, Z⟩]) = Z := by
  funext y
  exact View.read_writes_cons_unit_of_mem v _ _ _ _ y y rfl (fun a => by fin_cases a <;> simp)

theorem read_fill256 (v : View sig Kind.tc Space.vmem S2x512x256 EltTy.f32) (Z : S2x512x256.Idx → EReal) :
    View.read (Elt Ideal) v (v.writes (Elt Ideal) v.junk [⟨Rect.unit (s := S2x512x256) ![0, 0, 0] S2x512x256.size inb_S2x512x256_S2x512x256_0_0_0, Z⟩]) = Z := by
  funext y
  exact View.read_writes_cons_unit_of_mem v _ _ _ _ y y rfl (fun a => by fin_cases a <;> simp)

/-- A load of head 1's half of a buffer passes over a store into head 0's. -/
theorem skip1 (v : View sig Kind.tc Space.vmem S2x512x1 EltTy.f32) (w : S1x512x1.Idx → EReal) (L : List (View.Piece (Elt Ideal) S2x512x1 EltTy.f32)) :
    v.readCov (⟨Rect.unit (s := S2x512x1) ![0, 0, 0] S1x512x1.size inb_S2x512x1_S1x512x1_0_0_0, w⟩ :: L) (Rect.unit (s := S2x512x1) ![1, 0, 0] S1x512x1.size inb_S2x512x1_S1x512x1_1_0_0).toLoadRect
      = v.readCov L (Rect.unit (s := S2x512x1) ![1, 0, 0] S1x512x1.size inb_S2x512x1_S1x512x1_1_0_0).toLoadRect := by
  rw [readCov_eq_ld, readCov_eq_ld]
  funext y
  exact View.read_writes_cons_unit_of_not_mem v _ _ _ _ _ rfl 0 (Or.inr (Nat.le_add_right 1 _))

/-- A load of head 1's half of a buffer passes over a store into head 0's. -/
theorem skip256 (v : View sig Kind.tc Space.vmem S2x512x256 EltTy.f32) (w : S1x512x256.Idx → EReal) (L : List (View.Piece (Elt Ideal) S2x512x256 EltTy.f32)) :
    v.readCov (⟨Rect.unit (s := S2x512x256) ![0, 0, 0] S1x512x256.size inb_S2x512x256_S1x512x256_0_0_0, w⟩ :: L) (Rect.unit (s := S2x512x256) ![1, 0, 0] S1x512x256.size inb_S2x512x256_S1x512x256_1_0_0).toLoadRect
      = v.readCov L (Rect.unit (s := S2x512x256) ![1, 0, 0] S1x512x256.size inb_S2x512x256_S1x512x256_1_0_0).toLoadRect := by
  rw [readCov_eq_ld, readCov_eq_ld]
  funext y
  exact View.read_writes_cons_unit_of_not_mem v _ _ _ _ _ rfl 0 (Or.inr (Nat.le_add_right 1 _))

variable (c : Dev nD) (i : grid0.Coords)
  (arg3 : Memref sig Kind.tc Space.vmem S512x256 EltTy.bf16)
  (arg4 arg5 : Memref sig Kind.tc Space.vmem S8192x256 EltTy.bf16)
  (arg6 : Memref sig Kind.tc Space.vmem S4x128 EltTy.f32)
  (arg7 : Memref sig Kind.tc Space.vmem S1x256 EltTy.f32)
  (arg8 : Memref sig Kind.tc Space.vmem S512x256 EltTy.bf16)
  (arg9 arg10 : Memref sig Kind.tc Space.vmem S2x512x1 EltTy.f32)
  (arg11 : Memref sig Kind.tc Space.vmem S2x512x256 EltTy.f32)
  (h3 : arg3.IsWhole) (h4 : arg4.IsWhole) (h5 : arg5.IsWhole) (h6 : arg6.IsWhole) (h7 : arg7.IsWhole) (h8 : arg8.IsWhole)
  (h9 : arg9.IsWhole) (h10 : arg10.IsWhole) (h11 : arg11.IsWhole)
  (x0 : Vec Ideal S512x256 EltTy.bf16) (x1 x2 : Vec Ideal S8192x256 EltTy.bf16)

/-- After the loop, from the buffers the body fills at its start, the buffers stand for the keys before the queries' own block. -/
theorem final_run (hQ : Fin' x0) (hK : Fin' x1) (hV : Fin' x2) :
    Run x0 x1 x2 (i 2).val (512 * (i 2).val)
      (View.read (Elt Ideal) arg9.view (arg9.view.writes (Elt Ideal) (arg9.view.writes (Elt Ideal) arg9.view.junk [⟨Rect.unit (s := S2x512x1) ![0, 0, 0] S2x512x1.size inb_S2x512x1_S2x512x1_0_0_0, k0_pay34 (F := Ideal)⟩]) (pb_k0_t1 Variants.none c none i arg3 h3 arg4 h4 arg5 h5 arg6 h6 arg7 h7 arg8 h8 arg9 h9 arg10 h10 arg11 h11 (h3.unread x0) (h4.unread x1) (h5.unread x2)
        (arg9.view.writes (Elt Ideal) arg9.view.junk [⟨Rect.unit (s := S2x512x1) ![0, 0, 0] S2x512x1.size inb_S2x512x1_S2x512x1_0_0_0, k0_pay34 (F := Ideal)⟩])
        (arg10.view.writes (Elt Ideal) arg10.view.junk [⟨Rect.unit (s := S2x512x1) ![0, 0, 0] S2x512x1.size inb_S2x512x1_S2x512x1_0_0_0, k0_pay35 (F := Ideal)⟩])
        (arg11.view.writes (Elt Ideal) arg11.view.junk [⟨Rect.unit (s := S2x512x256) ![0, 0, 0] S2x512x256.size inb_S2x512x256_S2x512x256_0_0_0, k0_pay36 (F := Ideal)⟩]) (i 2).val).1))
      (View.read (Elt Ideal) arg10.view (arg10.view.writes (Elt Ideal) (arg10.view.writes (Elt Ideal) arg10.view.junk [⟨Rect.unit (s := S2x512x1) ![0, 0, 0] S2x512x1.size inb_S2x512x1_S2x512x1_0_0_0, k0_pay35 (F := Ideal)⟩]) (pb_k0_t1 Variants.none c none i arg3 h3 arg4 h4 arg5 h5 arg6 h6 arg7 h7 arg8 h8 arg9 h9 arg10 h10 arg11 h11 (h3.unread x0) (h4.unread x1) (h5.unread x2)
        (arg9.view.writes (Elt Ideal) arg9.view.junk [⟨Rect.unit (s := S2x512x1) ![0, 0, 0] S2x512x1.size inb_S2x512x1_S2x512x1_0_0_0, k0_pay34 (F := Ideal)⟩])
        (arg10.view.writes (Elt Ideal) arg10.view.junk [⟨Rect.unit (s := S2x512x1) ![0, 0, 0] S2x512x1.size inb_S2x512x1_S2x512x1_0_0_0, k0_pay35 (F := Ideal)⟩])
        (arg11.view.writes (Elt Ideal) arg11.view.junk [⟨Rect.unit (s := S2x512x256) ![0, 0, 0] S2x512x256.size inb_S2x512x256_S2x512x256_0_0_0, k0_pay36 (F := Ideal)⟩]) (i 2).val).2.1))
      (View.read (Elt Ideal) arg11.view (arg11.view.writes (Elt Ideal) (arg11.view.writes (Elt Ideal) arg11.view.junk [⟨Rect.unit (s := S2x512x256) ![0, 0, 0] S2x512x256.size inb_S2x512x256_S2x512x256_0_0_0, k0_pay36 (F := Ideal)⟩]) (pb_k0_t1 Variants.none c none i arg3 h3 arg4 h4 arg5 h5 arg6 h6 arg7 h7 arg8 h8 arg9 h9 arg10 h10 arg11 h11 (h3.unread x0) (h4.unread x1) (h5.unread x2)
        (arg9.view.writes (Elt Ideal) arg9.view.junk [⟨Rect.unit (s := S2x512x1) ![0, 0, 0] S2x512x1.size inb_S2x512x1_S2x512x1_0_0_0, k0_pay34 (F := Ideal)⟩])
        (arg10.view.writes (Elt Ideal) arg10.view.junk [⟨Rect.unit (s := S2x512x1) ![0, 0, 0] S2x512x1.size inb_S2x512x1_S2x512x1_0_0_0, k0_pay35 (F := Ideal)⟩])
        (arg11.view.writes (Elt Ideal) arg11.view.junk [⟨Rect.unit (s := S2x512x256) ![0, 0, 0] S2x512x256.size inb_S2x512x256_S2x512x256_0_0_0, k0_pay36 (F := Ideal)⟩]) (i 2).val).2.2)) := by
  have e3 := h3.read_unread x0
  have e4 := h4.read_unread x1
  have e5 := h5.read_unread x2
  have H := loop_run c i arg3 arg4 arg5 arg6 arg7 arg8 arg9 arg10 arg11 h3 h4 h5 h6 h7 h8 h9 h10 h11 (h3.unread x0) (h4.unread x1) (h5.unread x2)
    (arg9.view.writes (Elt Ideal) arg9.view.junk [⟨Rect.unit (s := S2x512x1) ![0, 0, 0] S2x512x1.size inb_S2x512x1_S2x512x1_0_0_0, k0_pay34 (F := Ideal)⟩])
    (arg10.view.writes (Elt Ideal) arg10.view.junk [⟨Rect.unit (s := S2x512x1) ![0, 0, 0] S2x512x1.size inb_S2x512x1_S2x512x1_0_0_0, k0_pay35 (F := Ideal)⟩])
    (arg11.view.writes (Elt Ideal) arg11.view.junk [⟨Rect.unit (s := S2x512x256) ![0, 0, 0] S2x512x256.size inb_S2x512x256_S2x512x256_0_0_0, k0_pay36 (F := Ideal)⟩])
    (by rw [e3]; exact hQ) (by rw [e4]; exact hK) (by rw [e5]; exact hV)
    (by
      refine run_zero _ _ _ _ _ _ _ (fun x => ?_) (fun x => ?_) (fun x => ?_)
      · rw [read_fill1]
        rfl
      · rw [read_fill1]
        exact bits_zero
      · rw [read_fill256]
        exact bits_zero) (i 2).val le_rfl
  rw [e3, e4, e5] at H
  exact H

theorem den0 (hQ : Fin' x0) (hK : Fin' x1) (hV : Fin' x2) (r : Fin 512) :
    kernelRun0_A.sl.v121 (F := Ideal) c i arg3 h3 arg4 h4 arg5 h5 arg6 h6 arg7 h7 arg8 h8 arg9 h9 arg10 h10 arg11 h11 x0 x1 x2 (ix3 0 r 0)
      = part (score x0 x1 (i 2).val 0 (by omega) r) (fun _ => 1) (512 * (i 2).val + 512) := by
  unfold kernelRun0_A.sl.v121
  rw [readCov_eq_ld]
  refine (View.read_writes_cons_unit_of_not_mem arg10.view _ _ _ _ _ rfl 0 (Or.inl (by exact Nat.zero_lt_one))).trans ?_
  sl_unfold_run_names
  refine (View.read_writes_cons_unit_of_mem arg10.view _ _ _ _ _ (ix3 0 r 0) rfl (fun a => by fin_cases a <;> simp [ix3])).trans ?_
  rw [trips2_eq]
  simp only [pb_k0_t2, List.nil_append]
  rw [show Scf.trips (k0_t1_loop i).lb (k0_t1_loop i).ub (k0_t1_loop i).st = (i 2).val from trips_eq i]
  have H := final_run c i arg3 arg4 arg5 arg6 arg7 arg8 arg9 arg10 arg11 h3 h4 h5 h6 h7 h8 h9 h10 h11 x0 x1 x2 hQ hK hV
  rw [← View.writes_append, ← View.writes_append, ← View.writes_append] at H
  simp only [readCov_eq_ld, View.readAt_eq_ld, h3.read_unread, h4.read_unread, h5.read_unread]
  exact diagL0 i x0 x1 x2 _ _ _ hQ hK H r

theorem den1 (hQ : Fin' x0) (hK : Fin' x1) (hV : Fin' x2) (r : Fin 512) :
    kernelRun0_A.sl.v127 (F := Ideal) c i arg3 h3 arg4 h4 arg5 h5 arg6 h6 arg7 h7 arg8 h8 arg9 h9 arg10 h10 arg11 h11 x0 x1 x2 (ix3 0 r 0)
      = part (score x0 x1 (i 2).val 128 (by omega) r) (fun _ => 1) (512 * (i 2).val + 512) := by
  unfold kernelRun0_A.sl.v127
  rw [readCov_eq_ld]
  sl_unfold_run_names
  refine (View.read_writes_cons_unit_of_mem arg10.view _ _ _ _ _ (ix3 0 r 0) rfl (fun a => by fin_cases a <;> simp [ix3])).trans ?_
  rw [trips2_eq]
  simp only [pb_k0_t2, List.nil_append]
  rw [show Scf.trips (k0_t1_loop i).lb (k0_t1_loop i).ub (k0_t1_loop i).st = (i 2).val from trips_eq i]
  have H := final_run c i arg3 arg4 arg5 arg6 arg7 arg8 arg9 arg10 arg11 h3 h4 h5 h6 h7 h8 h9 h10 h11 x0 x1 x2 hQ hK hV
  rw [← View.writes_append, ← View.writes_append, ← View.writes_append] at H
  rw [skip1 arg9.view, skip1 arg10.view]
  simp only [readCov_eq_ld, View.readAt_eq_ld, h3.read_unread, h4.read_unread, h5.read_unread]
  exact diagL1 i x0 x1 x2 _ _ _ hQ hK H r

theorem num0 (hQ : Fin' x0) (hK : Fin' x1) (hV : Fin' x2) (r : Fin 512) (d : Fin 256) :
    kernelRun0_A.sl.v119 (F := Ideal) c i arg3 h3 arg4 h4 arg5 h5 arg6 h6 arg7 h7 arg8 h8 arg9 h9 arg10 h10 arg11 h11 x0 x1 x2 (ix3 0 r d)
      = part (score x0 x1 (i 2).val 0 (by omega) r) (vcol x2 d) (512 * (i 2).val + 512) := by
  unfold kernelRun0_A.sl.v119
  rw [readCov_eq_ld]
  refine (View.read_writes_cons_unit_of_not_mem arg11.view _ _ _ _ _ rfl 0 (Or.inl (by exact Nat.zero_lt_one))).trans ?_
  sl_unfold_run_names
  refine (View.read_writes_cons_unit_of_mem arg11.view _ _ _ _ _ (ix3 0 r d) rfl (fun a => by fin_cases a <;> simp [ix3])).trans ?_
  rw [trips2_eq]
  simp only [pb_k0_t2, List.nil_append]
  rw [show Scf.trips (k0_t1_loop i).lb (k0_t1_loop i).ub (k0_t1_loop i).st = (i 2).val from trips_eq i]
  have H := final_run c i arg3 arg4 arg5 arg6 arg7 arg8 arg9 arg10 arg11 h3 h4 h5 h6 h7 h8 h9 h10 h11 x0 x1 x2 hQ hK hV
  rw [← View.writes_append, ← View.writes_append, ← View.writes_append] at H
  simp only [readCov_eq_ld, View.readAt_eq_ld, h3.read_unread, h4.read_unread, h5.read_unread]
  exact diagA0 i x0 x1 x2 _ _ _ hQ hK hV H r d

theorem num1 (hQ : Fin' x0) (hK : Fin' x1) (hV : Fin' x2) (r : Fin 512) (d : Fin 256) :
    kernelRun0_A.sl.v125 (F := Ideal) c i arg3 h3 arg4 h4 arg5 h5 arg6 h6 arg7 h7 arg8 h8 arg9 h9 arg10 h10 arg11 h11 x0 x1 x2 (ix3 0 r d)
      = part (score x0 x1 (i 2).val 128 (by omega) r) (vcol x2 d) (512 * (i 2).val + 512) := by
  unfold kernelRun0_A.sl.v125
  rw [readCov_eq_ld]
  sl_unfold_run_names
  refine (View.read_writes_cons_unit_of_mem arg11.view _ _ _ _ _ (ix3 0 r d) rfl (fun a => by fin_cases a <;> simp [ix3])).trans ?_
  rw [trips2_eq]
  simp only [pb_k0_t2, List.nil_append]
  rw [show Scf.trips (k0_t1_loop i).lb (k0_t1_loop i).ub (k0_t1_loop i).st = (i 2).val from trips_eq i]
  have H := final_run c i arg3 arg4 arg5 arg6 arg7 arg8 arg9 arg10 arg11 h3 h4 h5 h6 h7 h8 h9 h10 h11 x0 x1 x2 hQ hK hV
  rw [← View.writes_append, ← View.writes_append, ← View.writes_append] at H
  rw [skip1 arg9.view, skip256 arg11.view]
  simp only [readCov_eq_ld, View.readAt_eq_ld, h3.read_unread, h4.read_unread, h5.read_unread]
  exact diagA1 i x0 x1 x2 _ _ _ hQ hK hV H r d

end Attn

end
-- ==== Proof.Norm.lean ====
/-
  TWO SMALL PIECES OF THE LAYER, as functions of extended reals: the second head's factor, and a row's normalization. Kernel and reference both compute them.
-/
module

public import proofs.«01_k».proof.Proof.Online
public import Idealize.ShloMosaic.Lib.Pointwise

@[expose] public section

noncomputable section

namespace Attn

open Idealize.ShloMosaic

/-- The factor: the difference of two exponentials, and a constant. -/
def lam (Y : (⟨2, ![4, 128]⟩ : Shape).Idx → EReal) : EReal :=
  Ideal.exp (∑ x : Fin 128, (Y (ix2 0 x) : EReal) * Y (ix2 1 x)) - Ideal.exp (∑ x : Fin 128, (Y (ix2 2 x) : EReal) * Y (ix2 3 x))
    + Ideal.ofBits FTy.f32 0x3E4CCCCD#32

/-- One entry of a row over the root of the row's mean square, with its gain. -/
def norm (o : Fin 256 → EReal) (z : EReal) (d : Fin 256) : EReal :=
  o d * Ideal.rsqrt (Ideal.div (∑ x, o x * o x) (Ideal.ofBits FTy.f32 0x43800000#32) + Ideal.ofBits FTy.f32 0x358637BD#32) * z
    * Ideal.ofBits FTy.f32 0x3F4CCCCD#32

end Attn

end
-- ==== Proof.Block.lean ====
/-
  ONE BLOCK OF THE OUTPUT, READ: row `r` of the block is the values' rows under the difference of the two heads' softmaxes over all 8192 keys (the
  keys after the row's own position being masked), normalized.
-/
module

public import proofs.«01_k».proof.Proof.Sums
public import proofs.«01_k».proof.Proof.Norm

@[expose] public section

set_option maxRecDepth 16384

noncomputable section

namespace Attn

open Cert.KernelIdeal Cert.KernelIdeal.Gen Idealize.ShloMosaic Idealize.ShloMosaic.TcCoe Idealize.SL.Sem

variable (c : Dev nD) (i : grid0.Coords)
  (arg3 : Memref sig Kind.tc Space.vmem S512x256 EltTy.bf16)
  (arg4 arg5 : Memref sig Kind.tc Space.vmem S8192x256 EltTy.bf16)
  (arg6 : Memref sig Kind.tc Space.vmem S4x128 EltTy.f32)
  (arg7 : Memref sig Kind.tc Space.vmem S1x256 EltTy.f32)
  (arg8 : Memref sig Kind.tc Space.vmem S512x256 EltTy.bf16)
  (arg9 arg10 : Memref sig Kind.tc Space.vmem S2x512x1 EltTy.f32)
  (arg11 : Memref sig Kind.tc Space.vmem S2x512x256 EltTy.f32)
  (h3 : arg3.IsWhole) (h4 : arg4.IsWhole) (h5 : arg5.IsWhole) (h6 : arg6.IsWhole) (h7 : arg7.IsWhole) (h8 : arg8.IsWhole)
  (h9 : arg9.IsWhole) (h10 : arg10.IsWhole) (h11 : arg11.IsWhole)
  (x0 : Vec Ideal S512x256 EltTy.bf16) (x1 x2 : Vec Ideal S8192x256 EltTy.bf16) (x3 : Vec Ideal S4x128 EltTy.f32) (x4 : Vec Ideal S1x256 EltTy.f32)

/-- The block before its sums are named: two quotients, the second times the factor, their difference normalized. -/
theorem block_open (r : Fin 512) (d : Fin 256) :
    out0_A_5 c i arg3 h3 arg4 h4 arg5 h5 arg6 h6 arg7 h7 arg8 h8 arg9 h9 arg10 h10 arg11 h11 x0 x1 x2 x3 x4 (ix2 r d)
      = norm (fun e => Ideal.div (kernelRun0_A.sl.v119 (F := Ideal) c i arg3 h3 arg4 h4 arg5 h5 arg6 h6 arg7 h7 arg8 h8 arg9 h9 arg10 h10 arg11 h11 x0 x1 x2 (ix3 0 r e)) (kernelRun0_A.sl.v121 (F := Ideal) c i arg3 h3 arg4 h4 arg5 h5 arg6 h6 arg7 h7 arg8 h8 arg9 h9 arg10 h10 arg11 h11 x0 x1 x2 (ix3 0 r 0))
            - lam x3 * Ideal.div (kernelRun0_A.sl.v125 (F := Ideal) c i arg3 h3 arg4 h4 arg5 h5 arg6 h6 arg7 h7 arg8 h8 arg9 h9 arg10 h10 arg11 h11 x0 x1 x2 (ix3 0 r e)) (kernelRun0_A.sl.v127 (F := Ideal) c i arg3 h3 arg4 h4 arg5 h5 arg6 h6 arg7 h7 arg8 h8 arg9 h9 arg10 h10 arg11 h11 x0 x1 x2 (ix3 0 r 0)))
          (x4 (ix2 0 d)) d := by
  unfold out0_A_5
  unfold kernelRun0_A
  dsimp only
  refine (View.read_writes_cons_unit_of_mem _ _ _ _ _ _ (ix2 r d) rfl (fun a => by fin_cases a <;> simp [ix2])).trans ?_
  unfold kernelRun0_A.sl.r_4 kernelRun0_A.sl.r_5 kernelRun0_A.sl.cst_81
  simp only [View.readAt_eq_ld, h6.read_unread, h7.read_unread]
  generalize kernelRun0_A.sl.v119 (F := Ideal) c i arg3 h3 arg4 h4 arg5 h5 arg6 h6 arg7 h7 arg8 h8 arg9 h9 arg10 h10 arg11 h11 x0 x1 x2 = N0
  generalize kernelRun0_A.sl.v121 (F := Ideal) c i arg3 h3 arg4 h4 arg5 h5 arg6 h6 arg7 h7 arg8 h8 arg9 h9 arg10 h10 arg11 h11 x0 x1 x2 = D0
  generalize kernelRun0_A.sl.v125 (F := Ideal) c i arg3 h3 arg4 h4 arg5 h5 arg6 h6 arg7 h7 arg8 h8 arg9 h9 arg10 h10 arg11 h11 x0 x1 x2 = N1
  generalize kernelRun0_A.sl.v127 (F := Ideal) c i arg3 h3 arg4 h4 arg5 h5 arg6 h6 arg7 h7 arg8 h8 arg9 h9 arg10 h10 arg11 h11 x0 x1 x2 = D1
  unfold_payloads
  pointwise
  rfl

theorem block_eq (hQ : Fin' x0) (hK : Fin' x1) (hV : Fin' x2) (l : ℝ) (hl : lam x3 = l) (r : Fin 512) (d : Fin 256) :
    out0_A_5 c i arg3 h3 arg4 h4 arg5 h5 arg6 h6 arg7 h7 arg8 h8 arg9 h9 arg10 h10 arg11 h11 x0 x1 x2 x3 x4 (ix2 r d)
      = norm (fun e => ∑ j : Fin 8192, (vcol x2 e j.val : EReal)
            * (soft (score x0 x1 (i 2).val 0 (by omega) r) 8192 j.val - lam x3 * soft (score x0 x1 (i 2).val 128 (by omega) r) 8192 j.val))
          (x4 (ix2 0 d)) d := by
  have hb : (i 2).val < 16 := (i 2).isLt
  rw [block_open]
  congr 1
  funext e
  rw [num0 c i arg3 arg4 arg5 arg6 arg7 arg8 arg9 arg10 arg11 h3 h4 h5 h6 h7 h8 h9 h10 h11 x0 x1 x2 hQ hK hV, num1 c i arg3 arg4 arg5 arg6 arg7 arg8 arg9 arg10 arg11 h3 h4 h5 h6 h7 h8 h9 h10 h11 x0 x1 x2 hQ hK hV, den0 c i arg3 arg4 arg5 arg6 arg7 arg8 arg9 arg10 arg11 h3 h4 h5 h6 h7 h8 h9 h10 h11 x0 x1 x2 hQ hK hV, den1 c i arg3 arg4 arg5 arg6 arg7 arg8 arg9 arg10 arg11 h3 h4 h5 h6 h7 h8 h9 h10 h11 x0 x1 x2 hQ hK hV, hl]
  exact diff_eq _ _ (score_ne_top hQ hK _ _ _ _) (score_ne_top hQ hK _ _ _ _) _ l (N := 8192) (j₀ := 0) (by omega)
    (fun j hj _ => score_bot _ _ _ _ _ _ (by omega)) (fun j hj _ => score_bot _ _ _ _ _ _ (by omega)) (by omega)
    (score_ne_bot hQ hK _ _ _ _ (by omega)) (score_ne_bot hQ hK _ _ _ _ (by omega))

/-- The factor is a real number where its parameters are. -/
theorem lam_real (Y : (⟨2, ![4, 128]⟩ : Shape).Idx → EReal) (hY : Fin' Y) : ∃ l : ℝ, lam Y = l := by
  obtain ⟨w, hw⟩ : ∃ w : ℝ, Ideal.ofBits FTy.f32 0x3E4CCCCD#32 = w := by
    simp only [Ideal.ofBits, Ideal.ieee]
    exact ⟨_, by simp [← EReal.coe_mul]; rfl⟩
  have hp : ∀ a b : Fin 4, ∃ p : ℝ, ∑ x : Fin 128, Y (ix2 a x) * Y (ix2 b x) = p := fun a b => by
    refine ⟨∑ x : Fin 128, (Y (ix2 a x)).toReal * (Y (ix2 b x)).toReal, ?_⟩
    rw [coe_sum]
    refine Finset.sum_congr rfl fun x _ => ?_
    rw [EReal.coe_mul, hY.coe, hY.coe]
  obtain ⟨p, hp1⟩ := hp 0 1
  obtain ⟨q, hq1⟩ := hp 2 3
  refine ⟨Real.exp p - Real.exp q + w, ?_⟩
  rw [lam, hp1, hq1, hw]
  rfl

end Attn

end
-- ==== Proof.Ref.lean ====
/-
  THE REFERENCE, READ AT AN INDEX. The printed term in four parts — masked scores, softmax, the difference of the two heads' weights times the values,
  the normalization — each read at an index.
-/
module

public import proofs.«01_k».proof.Proof.Gen.ReferenceIdeal.Run
public import proofs.«01_k».proof.Proof.Norm
public import Idealize.ShloMosaic.Lib.Pointwise
public import Idealize.ShloMosaic.Lib.WordCmp

@[expose] public section

set_option maxRecDepth 16384

noncomputable section

namespace Attn.Ref

open Cert.ReferenceIdeal Cert.ReferenceIdeal.Gen Idealize.ShloMosaic Idealize.ShloMosaic.TcCoe Idealize.SL.Sem

/-- The masked scores of all pairs of positions. -/
def masked (X : FVec Ideal S16384x16384 FTy.bf16) : FVec Ideal S2x2x8x8192x8192 FTy.f32 :=
  (select (broadcastInDim S2x2x8x8192x8192 ![3, 4] bcast_S8192x8192_S2x2x8x8192x8192_3_4 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (Host.dotGeneral dot_S2x8192x8x2x128_S2x8192x8x2x128_S2x2x8x8192x8192_4_4_1_1_302_302 none (shapeCast _ (extractStridedSlice S16384x2048 ![0, 0] (extf .f32 X bitsLt_bf16_f32) slices_S16384x16384_S16384x2048_0_0) shapeCasts_S16384x2048_S2x8192x8x2x128) (shapeCast _ (extractStridedSlice S16384x2048 ![0, 2048] (extf .f32 X bitsLt_bf16_f32) slices_S16384x16384_S16384x2048_0_2048) shapeCasts_S16384x2048_S2x8192x8x2x128)) (broadcastInDim S2x2x8x8192x8192 ![] bcast_S_S2x2x8x8192x8192 (id (constant S_ .f32 0xFF800000#32))))

/-- The exponentials of the scores less their row's maximum. -/
def numer (S : FVec Ideal S2x2x8x8192x8192 FTy.f32) : FVec Ideal S2x2x8x8192x8192 FTy.f32 :=
  (Host.exp (subf S (broadcastInDim S2x2x8x8192x8192 ![0, 1, 2, 3, 4] bcast_S2x2x8x8192x1_S2x2x8x8192x8192_0_1_2_3_4 (broadcastInDim S2x2x8x8192x1 ![0, 1, 2, 3] bcast_S2x2x8x8192_S2x2x8x8192x1_0_1_2_3 (maximumf (broadcastInDim S2x2x8x8192 ![] bcast_S_S2x2x8x8192 (constant S_ .f32 0xFF800000#32)) (Host.reduce FloatOps.maximumf S (constant S_ .f32 0xFF800000#32) reducesTo_S2x2x8x8192x8192_S2x2x8x8192_d4 h_S_))))))

/-- Those exponentials over their row's sum. -/
def softm (E : FVec Ideal S2x2x8x8192x8192 FTy.f32) : FVec Ideal S2x2x8x8192x8192 FTy.f32 :=
  (Host.divf E (broadcastInDim S2x2x8x8192x8192 ![0, 1, 2, 3, 4] bcast_S2x2x8x8192x1_S2x2x8x8192x8192_0_1_2_3_4 (broadcastInDim S2x2x8x8192x1 ![0, 1, 2, 3] bcast_S2x2x8x8192_S2x2x8x8192x1_0_1_2_3 (Host.reduceAdd E (constant S_ .f32 0x00000000#32) reducesTo_S2x2x8x8192x8192_S2x2x8x8192_d4 h_S_))))

/-- The factor of the second head. -/
def lamb (Y : FVec Ideal S4x128 FTy.f32) : FVec Ideal S_ FTy.f32 :=
  (addf (subf (Host.exp (Host.reduceAdd (mulf (shapeCast _ (extractStridedSlice S1x128 ![0, 0] Y slices_S4x128_S1x128_0_0) shapeCasts_S1x128_S128) (shapeCast _ (extractStridedSlice S1x128 ![1, 0] Y slices_S4x128_S1x128_1_0) shapeCasts_S1x128_S128)) (constant S_ .f32 0x00000000#32) reducesTo_S128_S_d0 h_S_)) (Host.exp (Host.reduceAdd (mulf (shapeCast _ (extractStridedSlice S1x128 ![2, 0] Y slices_S4x128_S1x128_2_0) shapeCasts_S1x128_S128) (shapeCast _ (extractStridedSlice S1x128 ![3, 0] Y slices_S4x128_S1x128_3_0) shapeCasts_S1x128_S128)) (constant S_ .f32 0x00000000#32) reducesTo_S128_S_d0 h_S_))) (constant S_ .f32 0x3E4CCCCD#32))

/-- The values under the first head's weights less the factor times the second's. -/
def mixed (X : FVec Ideal S16384x16384 FTy.bf16) (P : FVec Ideal S2x2x8x8192x8192 FTy.f32) (c : FVec Ideal S_ FTy.f32) : FVec Ideal S2x8192x8x256 FTy.f32 :=
  (transpose S2x8192x8x256 [0, 3, 1, 2] (Host.dotGeneral dot_S2x8192x8x256_S2x8x8192x8192_S2x8x256x8192_1_3_3_2_02_01 none (shapeCast _ (extractStridedSlice S16384x2048 ![0, 4096] (extf .f32 X bitsLt_bf16_f32) slices_S16384x16384_S16384x2048_0_4096) shapeCasts_S16384x2048_S2x8192x8x256) (subf (shapeCast _ (extractStridedSlice S1x2x8x8192x8192 ![0, 0, 0, 0, 0] P slices_S2x2x8x8192x8192_S1x2x8x8192x8192_0_0_0_0_0) shapeCasts_S1x2x8x8192x8192_S2x8x8192x8192) (mulf (broadcastInDim S2x8x8192x8192 ![] bcast_S_S2x8x8192x8192 c) (shapeCast _ (extractStridedSlice S1x2x8x8192x8192 ![1, 0, 0, 0, 0] P slices_S2x2x8x8192x8192_S1x2x8x8192x8192_1_0_0_0_0) shapeCasts_S1x2x8x8192x8192_S2x8x8192x8192)))) transposes_S2x8x256x8192_S2x8192x8x256_0_3_1_2)

/-- The head's normalization. -/
def normed (O : FVec Ideal S2x8192x8x256 FTy.f32) (Z : FVec Ideal S256 FTy.f32) : FVec Ideal S16384x2048 FTy.bf16 :=
  truncf .bf16 (shapeCast _ (mulf (mulf (mulf O (broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 (Host.reduceAdd (mulf O O) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32)))))) (broadcastInDim S2x8192x8x256 ![0, 1, 2, 3] bcast_S1x1x1x256_S2x8192x8x256_0_1_2_3 (broadcastInDim S1x1x1x256 ![3] bcast_S256_S1x1x1x256_3 Z))) (broadcastInDim S2x8192x8x256 ![] bcast_S_S2x8192x8x256 (constant S_ .f32 0x3F4CCCCD#32))) shapeCasts_S2x8192x8x256_S16384x2048) bitsLt_bf16_f32

/-- The printed result is these parts composed. -/
theorem result_eq (m : (ℓ : Loc nD τ sig) → Buf (Elt Ideal) ℓ) (c : Dev nD) :
    Value.res_main_v67 m c
      = normed (mixed (m ((c.tc : Thread nD τ).loc main_arg0)) (softm (numer (masked (m ((c.tc : Thread nD τ).loc main_arg0)))))
          (lamb (m ((c.tc : Thread nD τ).loc main_arg1)))) (m ((c.tc : Thread nD τ).loc main_arg2)) := rfl

theorem ninf : Ideal.ofBits FTy.f32 0xFF800000#32 = ⊥ := by simp [Ideal.ofBits, Ideal.ieee]

/-- Key `k` is seen by query `q` where it does not come after it. -/
theorem masked_apply (X : FVec Ideal S16384x16384 FTy.bf16) (c b : Fin 2) (h : Fin 8) (q k : Fin 8192) :
    masked X (ix5 c b h q k)
      = if k.val ≤ q.val then
          ∑ x : Fin 128, (X (ix2 ⟨b.val * 8192 + q.val, by omega⟩ ⟨h.val * 256 + c.val * 128 + x.val, by omega⟩) : EReal)
            * X (ix2 ⟨b.val * 8192 + k.val, by omega⟩ ⟨2048 + (h.val * 256 + c.val * 128 + x.val), by omega⟩)
        else (⊥ : EReal) := by
  unfold masked
  pointwise
  rw [WordCmp.cmpi_sge_ofNat (by have := q.isLt; omega) (by have := k.isLt; omega)]
  by_cases hk : k.val ≤ q.val
  · rw [if_pos hk, decide_eq_true hk]
    rfl
  · rw [if_neg hk, decide_eq_false hk]
    exact ninf

/-- A maximum along the last axis, at any extents. -/
theorem reduce_max {n0 n1 n2 n3 n4 : ℕ} (S : FVec Ideal ⟨5, ![n0, n1, n2, n3, n4]⟩ FTy.f32) (init : FVec Ideal S_ FTy.f32)
    (hr : Shape.ReducesTo ⟨5, ![n0, n1, n2, n3, n4]⟩ [4] ⟨4, ![n0, n1, n2, n3]⟩) (hu : 0 < S_.numel)
    (a : Fin n0) (b : Fin n1) (c : Fin n2) (d : Fin n3) :
    Host.reduce FloatOps.maximumf S init hr hu (ix4 a b c d) = Finset.fold max (init (Shape.Idx.first hu)) (fun x => S (ix5 a b c d x)) Finset.univ := by
  pointwise

/-- A sum along the last axis, at any extents. -/
theorem reduce_sum {n0 n1 n2 n3 n4 : ℕ} (S : FVec Ideal ⟨5, ![n0, n1, n2, n3, n4]⟩ FTy.f32) (init : FVec Ideal S_ FTy.f32)
    (hr : Shape.ReducesTo ⟨5, ![n0, n1, n2, n3, n4]⟩ [4] ⟨4, ![n0, n1, n2, n3]⟩) (hu : 0 < S_.numel)
    (a : Fin n0) (b : Fin n1) (c : Fin n2) (d : Fin n3) :
    Host.reduceAdd S init hr hu (ix4 a b c d) = init (Shape.Idx.first hu) + ∑ x, S (ix5 a b c d x) := by
  pointwise

/-- The row of scores of one query, as a sequence. -/
def row (S : FVec Ideal S2x2x8x8192x8192 FTy.f32) (c b : Fin 2) (h : Fin 8) (q : Fin 8192) (j : ℕ) : EReal :=
  if hj : j < 8192 then S (ix5 c b h q ⟨j, hj⟩) else ⊥

theorem row_val (S : FVec Ideal S2x2x8x8192x8192 FTy.f32) (c b : Fin 2) (h : Fin 8) (q k : Fin 8192) :
    row S c b h q k.val = S (ix5 c b h q k) := dif_pos k.isLt

/-- The exponentials for any array of row maxima. -/
theorem numer_of (S : FVec Ideal S2x2x8x8192x8192 FTy.f32) (T : FVec Ideal S2x2x8x8192 FTy.f32) (c b : Fin 2) (h : Fin 8) (q k : Fin 8192) :
    (Host.exp (subf S (broadcastInDim S2x2x8x8192x8192 ![0, 1, 2, 3, 4] bcast_S2x2x8x8192x1_S2x2x8x8192x8192_0_1_2_3_4 (broadcastInDim S2x2x8x8192x1 ![0, 1, 2, 3] bcast_S2x2x8x8192_S2x2x8x8192x1_0_1_2_3 (maximumf (broadcastInDim S2x2x8x8192 ![] bcast_S_S2x2x8x8192 (constant S_ .f32 0xFF800000#32)) T))))) (ix5 c b h q k)
      = Ideal.exp (S (ix5 c b h q k) - max (Ideal.ofBits .f32 0xFF800000#32) (T (ix4 c b h q))) := by
  pointwise

theorem numer_apply (S : FVec Ideal S2x2x8x8192x8192 FTy.f32) (c b : Fin 2) (h : Fin 8) (q k : Fin 8192) :
    numer S (ix5 c b h q k) = Ideal.exp (row S c b h q k.val - top (row S c b h q) 8192) := by
  have ht := top_add (row S c b h q) 0 8192
  rw [top_zero] at ht
  simp only [Nat.zero_add, row_val] at ht
  rw [row_val, ← ht]
  refine (numer_of S _ c b h q k).trans ?_
  rw [reduce_max S, ninf]
  have e : (constant S_ .f32 0xFF800000#32 : FVec Ideal S_ FTy.f32) (Shape.Idx.first h_S_) = ⊥ := ninf
  rw [e]

/-- The quotients for any array of row sums. -/
theorem softm_of (E : FVec Ideal S2x2x8x8192x8192 FTy.f32) (T : FVec Ideal S2x2x8x8192 FTy.f32) (c b : Fin 2) (h : Fin 8) (q k : Fin 8192) :
    (Host.divf E (broadcastInDim S2x2x8x8192x8192 ![0, 1, 2, 3, 4] bcast_S2x2x8x8192x1_S2x2x8x8192x8192_0_1_2_3_4 (broadcastInDim S2x2x8x8192x1 ![0, 1, 2, 3] bcast_S2x2x8x8192_S2x2x8x8192x1_0_1_2_3 T))) (ix5 c b h q k)
      = Ideal.div (E (ix5 c b h q k)) (T (ix4 c b h q)) := by
  pointwise

theorem softm_apply (S : FVec Ideal S2x2x8x8192x8192 FTy.f32) (c b : Fin 2) (h : Fin 8) (q k : Fin 8192) :
    softm (numer S) (ix5 c b h q k) = soft (row S c b h q) 8192 k.val := by
  refine (softm_of (numer S) _ c b h q k).trans ?_
  rw [reduce_sum (numer S)]
  have e : (constant S_ .f32 0x00000000#32 : FVec Ideal S_ FTy.f32) (Shape.Idx.first h_S_) = 0 := by
    change Ideal.ofBits FTy.f32 0x00000000#32 = 0
    simp [Ideal.ofBits, Ideal.ieee]
  rw [e, zero_add, soft]
  simp only [numer_apply]

theorem lamb_apply (Y : FVec Ideal S4x128 FTy.f32) : lamb Y ix0 = lam Y := by
  unfold lamb
  pointwise
  rfl

theorem mixed_apply (X : FVec Ideal S16384x16384 FTy.bf16) (P : FVec Ideal S2x2x8x8192x8192 FTy.f32) (c : FVec Ideal S_ FTy.f32)
    (b : Fin 2) (q : Fin 8192) (h : Fin 8) (d : Fin 256) :
    mixed X P c (ix4 b q h d)
      = ∑ x : Fin 8192, (X (ix2 ⟨b.val * 8192 + x.val, by omega⟩ ⟨4096 + (h.val * 256 + d.val), by omega⟩) : EReal)
          * (P (ix5 0 b h q x) - c ix0 * P (ix5 1 b h q x)) := by
  unfold mixed
  pointwise

theorem normed_apply (O : FVec Ideal S2x8192x8x256 FTy.f32) (Z : FVec Ideal S256 FTy.f32) (r : Fin 16384) (d : Fin 2048) :
    normed O Z (ix2 r d)
      = norm (fun x => O (ix4 ⟨r.val / 8192, by omega⟩ ⟨r.val % 8192, by omega⟩ ⟨d.val / 256, by omega⟩ x))
          (Z (ix1 ⟨d.val % 256, by omega⟩)) ⟨d.val % 256, by omega⟩ := by
  unfold normed
  pointwise
  rfl

/-- Position `q` of batch `b`, head `h`: the values' columns under the difference of the two softmaxes. -/
def mix (X : FVec Ideal S16384x16384 FTy.bf16) (Y : FVec Ideal S4x128 FTy.f32) (b : Fin 2) (q : Fin 8192) (h : Fin 8) (e : Fin 256) : EReal :=
  ∑ x : Fin 8192, (X (ix2 ⟨b.val * 8192 + x.val, by omega⟩ ⟨4096 + (h.val * 256 + e.val), by omega⟩) : EReal)
    * (soft (row (masked X) 0 b h q) 8192 x.val - lam Y * soft (row (masked X) 1 b h q) 8192 x.val)

/-- The result at a position. -/
theorem result_apply (X : FVec Ideal S16384x16384 FTy.bf16) (Y : FVec Ideal S4x128 FTy.f32) (Z : FVec Ideal S256 FTy.f32)
    (b : Fin 2) (q : Fin 8192) (h : Fin 8) (d : Fin 256) :
    normed (mixed X (softm (numer (masked X))) (lamb Y)) Z (ix2 ⟨b.val * 8192 + q.val, by omega⟩ ⟨h.val * 256 + d.val, by omega⟩)
      = norm (mix X Y b q h) (Z (ix1 d)) d := by
  rw [normed_apply]
  have e1 : (⟨(b.val * 8192 + q.val) / 8192, by omega⟩ : Fin 2) = b := Fin.ext (by dsimp only; omega)
  have e2 : (⟨(b.val * 8192 + q.val) % 8192, by omega⟩ : Fin 8192) = q := Fin.ext (by dsimp only; omega)
  have e3 : (⟨(h.val * 256 + d.val) / 256, by omega⟩ : Fin 8) = h := Fin.ext (by dsimp only; omega)
  have e4 : (⟨(h.val * 256 + d.val) % 256, by omega⟩ : Fin 256) = d := Fin.ext (by dsimp only; omega)
  simp only [e1, e2, e3, e4, mixed_apply, softm_apply, lamb_apply]
  rfl

end Attn.Ref

end
-- ==== Proof.Match.lean ====
/-
  KERNEL AND REFERENCE AT ONE BLOCK: where the kernel's blocks are cut from the arrays the reference reads, the block the body writes is the reference's
  result there.
-/
module

public import proofs.«01_k».proof.Proof.Block
public import proofs.«01_k».proof.Proof.Ref

@[expose] public section

set_option maxRecDepth 16384

noncomputable section

namespace Attn

open Cert.KernelIdeal Cert.KernelIdeal.Gen Idealize.ShloMosaic Idealize.ShloMosaic.TcCoe Idealize.SL.Sem

/-- A matrix of real numbers, entry by entry. -/
theorem fin_of {n0 n1 : ℕ} {x : (⟨2, ![n0, n1]⟩ : Shape).Idx → EReal} (h : ∀ (a : Fin n0) (b : Fin n1), x (ix2 a b) ≠ ⊤ ∧ x (ix2 a b) ≠ ⊥) : Fin' x := fun j => by
  have e := h (j 0) (j 1)
  rwa [ix2_eta] at e

/-- A row of the kernel's scores is a row of the reference's. -/
theorem score_row (X : S16384x16384.Idx → EReal) (x0 : S512x256.Idx → EReal) (x1 : S8192x256.Idx → EReal) (b : Fin 2) (h : Fin 8) (n : Fin 16)
    (h0 : ∀ (r : Fin 512) (j : Fin 256), x0 (ix2 r j) = X (ix2 ⟨b.val * 8192 + (512 * n.val + r.val), by omega⟩ ⟨h.val * 256 + j.val, by omega⟩))
    (h1 : ∀ (k : Fin 8192) (j : Fin 256), x1 (ix2 k j) = X (ix2 ⟨b.val * 8192 + k.val, by omega⟩ ⟨2048 + (h.val * 256 + j.val), by omega⟩))
    (c : Fin 2) (o : ℕ) (ho : o + 128 ≤ 256) (hc : o = c.val * 128) (r : Fin 512) :
    score x0 x1 n.val o ho r = Ref.row (Ref.masked X) c b h ⟨512 * n.val + r.val, by omega⟩ := by
  funext j
  unfold Ref.row score
  by_cases hj : j < 8192
  · rw [dif_pos hj, Ref.masked_apply]
    by_cases hk : j ≤ 512 * n.val + r.val
    · rw [dif_pos ⟨hj, hk⟩, if_pos hk, raw]
      refine Finset.sum_congr rfl fun x _ => ?_
      rw [h0, h1]
      subst hc
      simp only [Nat.add_assoc]
    · rw [dif_neg (by omega), if_neg hk]
  · rw [dif_neg hj, dif_neg (by omega)]

variable (c : Dev nD) (i : grid0.Coords)
  (arg3 : Memref sig Kind.tc Space.vmem S512x256 EltTy.bf16)
  (arg4 arg5 : Memref sig Kind.tc Space.vmem S8192x256 EltTy.bf16)
  (arg6 : Memref sig Kind.tc Space.vmem S4x128 EltTy.f32)
  (arg7 : Memref sig Kind.tc Space.vmem S1x256 EltTy.f32)
  (arg8 : Memref sig Kind.tc Space.vmem S512x256 EltTy.bf16)
  (arg9 arg10 : Memref sig Kind.tc Space.vmem S2x512x1 EltTy.f32)
  (arg11 : Memref sig Kind.tc Space.vmem S2x512x256 EltTy.f32)
  (h3 : arg3.IsWhole) (h4 : arg4.IsWhole) (h5 : arg5.IsWhole) (h6 : arg6.IsWhole) (h7 : arg7.IsWhole) (h8 : arg8.IsWhole)
  (h9 : arg9.IsWhole) (h10 : arg10.IsWhole) (h11 : arg11.IsWhole)
  (x0 : Vec Ideal S512x256 EltTy.bf16) (x1 x2 : Vec Ideal S8192x256 EltTy.bf16) (x3 : Vec Ideal S4x128 EltTy.f32) (x4 : Vec Ideal S1x256 EltTy.f32)

theorem block_ref (X : S16384x16384.Idx → EReal) (Y : S4x128.Idx → EReal) (Z : S256.Idx → EReal) (hX : Fin' X) (hY : Fin' Y)
    (b : Fin 2) (h : Fin 8) (n : Fin 16) (hn : (i 2).val = n.val)
    (h0 : ∀ (r : Fin 512) (j : Fin 256), x0 (ix2 r j) = X (ix2 ⟨b.val * 8192 + (512 * n.val + r.val), by omega⟩ ⟨h.val * 256 + j.val, by omega⟩))
    (h1 : ∀ (k : Fin 8192) (j : Fin 256), x1 (ix2 k j) = X (ix2 ⟨b.val * 8192 + k.val, by omega⟩ ⟨2048 + (h.val * 256 + j.val), by omega⟩))
    (h2 : ∀ (k : Fin 8192) (j : Fin 256), x2 (ix2 k j) = X (ix2 ⟨b.val * 8192 + k.val, by omega⟩ ⟨4096 + (h.val * 256 + j.val), by omega⟩))
    (e3 : x3 = Y) (e4 : ∀ d : Fin 256, x4 (ix2 0 d) = Z (ix1 d)) (r : Fin 512) (d : Fin 256) :
    out0_A_5 c i arg3 h3 arg4 h4 arg5 h5 arg6 h6 arg7 h7 arg8 h8 arg9 h9 arg10 h10 arg11 h11 x0 x1 x2 x3 x4 (ix2 r d)
      = Ref.normed (Ref.mixed X (Ref.softm (Ref.numer (Ref.masked X))) (Ref.lamb Y)) Z
          (ix2 ⟨b.val * 8192 + (512 * n.val + r.val), by omega⟩ ⟨h.val * 256 + d.val, by omega⟩) := by
  subst e3
  have hQ : Fin' x0 := fin_of fun a b => by rw [h0]; exact hX _
  have hK : Fin' x1 := fin_of fun a b => by rw [h1]; exact hX _
  have hV : Fin' x2 := fin_of fun a b => by rw [h2]; exact hX _
  obtain ⟨l, hl⟩ := lam_real x3 hY
  rw [block_eq c i arg3 arg4 arg5 arg6 arg7 arg8 arg9 arg10 arg11 h3 h4 h5 h6 h7 h8 h9 h10 h11 x0 x1 x2 x3 x4 hQ hK hV l hl]
  have er := Ref.result_apply X x3 Z b ⟨512 * n.val + r.val, by omega⟩ h d
  refine Eq.trans ?_ er.symm
  rw [e4]
  congr 1
  funext e
  unfold Ref.mix
  refine Finset.sum_congr rfl fun k _ => ?_
  simp only [hn]
  rw [vcol_coe hV, h2, score_row X x0 x1 b h n h0 h1 0 0 _ rfl, score_row X x0 x1 b h n h0 h1 1 128 _ rfl]

end Attn

end
-- ==== Proof.Final.lean ====
/-
  FROM BLOCKS TO THE ARRAY: every block of the output is one grid point's, and that point's inputs are cut from the arguments; so the whole result of the
  kernel is the reference's.
-/
module

public import proofs.«01_k».proof.Proof.Match
public import Idealize.ShloMosaic.Lib.Pipeline.ValueKit
public import Idealize.ShloMosaic.Lib.Pipeline.Covers

@[expose] public section

set_option maxRecDepth 16384

noncomputable section

namespace Attn

open Cert.KernelIdeal Cert.KernelIdeal.Gen Idealize.ShloMosaic Idealize.ShloMosaic.TcCoe Idealize.SL.Sem
open Idealize.ShloMosaic.Pipeline (Dat)

theorem index0 : ∀ t : Fin cfg0.N, win0_0.index t = ![(grid0.coords t 0).val * 16 + (grid0.coords t 2).val, (grid0.coords t 1).val] :=
  (by decide +kernel : ∀ t : Fin grid0.N, _)
theorem index1 : ∀ t : Fin cfg0.N, win0_1.index t = ![(grid0.coords t 0).val, 8 + (grid0.coords t 1).val] :=
  (by decide +kernel : ∀ t : Fin grid0.N, _)
theorem index2 : ∀ t : Fin cfg0.N, win0_2.index t = ![(grid0.coords t 0).val, 16 + (grid0.coords t 1).val] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val * 16 + (grid0.coords t 2).val, (grid0.coords t 1).val] :=
  (by decide +kernel : ∀ t : Fin grid0.N, _)

/-- Block `(β 0, β 1)` is the point's of batch `β 0 / 16`, head `β 1`, query block `β 0 % 16`. -/
theorem covers : (cfg0.win 5).Covers :=
  (cfg0.win 5).covers_of_indexMap_surj rfl (by decide) fun β => by
    have key : ∀ (x : Fin 32) (y : Fin 8), ∃ i : grid0.Coords, cc0_transform_5 i = ![x.val, y.val] := by decide +kernel
    obtain ⟨i, hi⟩ := key (β 0) (β 1)
    exact ⟨i, fun a => by
      refine (congrFun hi a).trans ?_
      fin_cases a <;> rfl⟩

variable (m : (ℓ : Loc nD τ sig) → Buf (Elt Ideal) ℓ)

theorem row_apply (z : FVec Idealize.ShloMosaic.Ideal S256 .f32) (d : Fin 256) :
    shapeCast S1x256 z shapeCasts_S256_S1x256 (ix2 0 d) = z (ix1 d) := by
  pointwise

/-- The gain as the launch sees it: the argument as one row. -/
theorem row_eq (c : Dev nD) : V m c main_v0 = shapeCast S1x256 (m ((c.tc : Thread nD τ).loc main_arg2)) shapeCasts_S256_S1x256 := by
  unfold V hostOps0
  after_results_simp <;> rfl

/-- What the kernel leaves in its result. -/
abbrev kernelOut (c : Dev nD) : Buf (Elt Idealize.ShloMosaic.Ideal) ((c.tc : Thread nD τ).loc main_v1) := (dats m 0 c).arrAt 5 cfg0.N

theorem final (c : Dev nD) (hX : Fin' (s := S16384x16384) (m ((c.tc : Thread nD τ).loc main_arg0))) (hY : Fin' (s := S4x128) (m ((c.tc : Thread nD τ).loc main_arg1))) :
    (dats m 0 c).arrAt 5 cfg0.N
      = Ref.normed (Ref.mixed (m ((c.tc : Thread nD τ).loc main_arg0)) (Ref.softm (Ref.numer (Ref.masked (m ((c.tc : Thread nD τ).loc main_arg0)))))
          (Ref.lamb (m ((c.tc : Thread nD τ).loc main_arg1)))) (m ((c.tc : Thread nD τ).loc main_arg2)) := by
  refine (dats m 0 c).arrAt_eq_of_covers 5 _ covers fun t hf y => ?_
  blk_simp
  rw [after0_5]
  unfold outsAt0
  have b0 : (grid0.coords t 0).val < 2 := (grid0.coords t 0).isLt
  have b1 : (grid0.coords t 1).val < 8 := (grid0.coords t 1).isLt
  have b2 : (grid0.coords t 2).val < 16 := (grid0.coords t 2).isLt
  have hy0 : (y 0).val < 512 := (y 0).isLt
  have hy1 : (y 1).val < 256 := (y 1).isLt
  have ey : (win0_5.blk t).view.emb y
      = ix2 (n0 := 16384) (n1 := 2048) ⟨(grid0.coords t 0).val * 8192 + (512 * (grid0.coords t 2).val + (y 0).val), by omega⟩
          ⟨(grid0.coords t 1).val * 256 + (y 1).val, by omega⟩ := by
    blk_ext [index5 t, ix2]
  rw [ey]
  refine Eq.trans (congrArg _ (eq_ix2 (n0 := 512) (n1 := 256) y)) ?_
  refine block_ref c (grid0.coords t) _ _ _ _ _ _ _ _ _ _ _ _ _ _ _ _ _ _ (iblk m c 0 t) (iblk m c 1 t) (iblk m c 2 t) (iblk m c 3 t) (iblk m c 4 t)
    _ _ _ hX hY ⟨(grid0.coords t 0).val, b0⟩ ⟨(grid0.coords t 1).val, b1⟩ ⟨(grid0.coords t 2).val, b2⟩ rfl ?_ ?_ ?_ ?_ ?_ (y 0) (y 1)
  · intro r j
    blk_simp [iblk]
    rw [V_main_arg0]
    congr 1
    blk_ext [index0 t, ix2]
  · intro k j
    blk_simp [iblk]
    rw [V_main_arg0]
    congr 1
    blk_ext [index1 t, ix2]
  · intro k j
    blk_simp [iblk]
    rw [V_main_arg0]
    congr 1
    blk_ext [index2 t, ix2]
  · funext j
    blk_simp [iblk]
    rw [V_main_arg1]
    congr 1
    blk_ext [index3 t]
  · intro d
    blk_simp [iblk]
    rw [row_eq]
    have ed : (win0_4.blk t).view.emb (ix2 0 d) = ix2 (n0 := 1) (n1 := 256) 0 d := by
      blk_ext [index4 t, ix2]
    rw [ed]
    exact row_apply _ d

end Attn

end
-- ==== Proof.Pre.lean ====
/-
  WHAT THE PRECONDITION SAYS: an array whose every absolute value compares below the word of +∞ holds neither infinity.
-/
module

public import proofs.«01_k».proof.Defs
public import proofs.«01_k».proof.Proof.Score
public import Idealize.ShloMosaic.Lib.ReduceAll
public import Idealize.ShloMosaic.Lib.Affine
public import Idealize.ShloMosaic.Lib.Pointwise

@[expose] public section

set_option maxRecDepth 16384

noncomputable section

namespace Attn

open Idealize.ShloMosaic

/-- The shape relations that the printed predicate states. -/
theorem preFacts : Cert.Pre_finite.Facts where
  bitsLt_bf16_f32 := by decide
  bcast_S_S16384x16384 := by decide
  reducesTo_S16384x16384_S_d0_1 := by decide
  h_S_ := by decide
  bcast_S_S4x128 := by decide
  reducesTo_S4x128_S_d0_1 := by decide

/-- Below +∞ in absolute value: neither infinity. -/
theorem fin_of_abs (x : EReal) (h : max x (-x) < Ideal.ofBits .f32 0x7F800000#32) : x ≠ ⊤ ∧ x ≠ ⊥ := by
  have e : Ideal.ofBits .f32 0x7F800000#32 = (⊤ : EReal) := by simp [Ideal.ofBits, Ideal.ieee]
  rw [e, max_lt_iff] at h
  refine ⟨h.1.ne, fun hb => ?_⟩
  subst hb
  simp at h

/-- A scalar constant spread over any shape reads as its word everywhere. -/
theorem bcast_const {u s : Shape} (w : BitVec 32) (d : Fin u.rank → Fin s.rank) (h : u.BroadcastsInDim s d) (i : s.Idx) :
    broadcastInDim s d h (constant (F := Idealize.ShloMosaic.Ideal) u .f32 w) i = Ideal.ofBits .f32 w := rfl

/-- The predicate's test of one array, over any array and any way of filling one with a scalar. -/
theorem all_fin {s t u : Shape} [Subsingleton t.Idx] {axes : List (Fin s.rank)} (x : FVec Idealize.ShloMosaic.Ideal s .f32)
    (y : FVec Idealize.ShloMosaic.Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : x i ≠ ⊤ ∧ x i ≠ ⊥ := by
  have h1 : cmpf .olt (Host.absf x) y i = 1#1 := Host.reduce_andi_all _ _ _ _ j e i
  refine fin_of_abs _ ?_
  rw [← hy i]
  exact (Ideal.cmp_olt_eq_one _ _).1 h1

/-- The precondition gives what the proof takes of the projection and of the four lambda rows. -/
theorem pre_fin [Cert.Pre_finite.Facts] (X : FVec Idealize.ShloMosaic.Ideal Cert.Pre_finite.S16384x16384 .bf16)
    (Y : FVec Idealize.ShloMosaic.Ideal Cert.Pre_finite.S4x128 .f32) (Z : FVec Idealize.ShloMosaic.Ideal Cert.Pre_finite.S256 .f32)
    (h : Cert.Pre_finite.fn (F := Idealize.ShloMosaic.Ideal) X Y Z = fun _ => 1#1) :
    (∀ i, X i ≠ ⊤ ∧ X i ≠ ⊥) ∧ ∀ i, Y i ≠ ⊤ ∧ Y i ≠ ⊥ := by
  haveI : Subsingleton Cert.Pre_finite.S_.Idx := ⟨fun a b => funext fun k => k.elim0⟩
  have h0 := congrFun h (fun k => k.elim0)
  dsimp only [Cert.Pre_finite.fn] at h0
  obtain ⟨hx, hy⟩ := IntOp.andi_eq_one.1 h0
  refine ⟨fun i => ?_, fun i => ?_⟩
  · exact all_fin _ _ (bcast_const _ _ _) _ _ _ _ hx i
  · exact all_fin _ _ (bcast_const _ _ _) _ _ _ _ hy i

end Attn

end
-- ==== Proof.MergeRef.lean ====
/-
  THE REFERENCE'S GATED SUM OF THE BRANCHES, read at an element.
-/
module

public import proofs.«01_k».proof.Proof.Gen.Reference2Ideal.Run
public import Idealize.ShloMosaic.Lib.Pointwise

@[expose] public section

set_option maxRecDepth 16384

noncomputable section

namespace Merge

open Cert.Reference2Ideal Cert.Reference2Ideal.Gen Idealize.ShloMosaic Idealize.ShloMosaic.TcCoe Idealize.SL.Sem

/-- The reference's result, as printed, over its seven arguments. -/
def ref (o0 : FVec Idealize.ShloMosaic.Ideal S16384x2048 .bf16) (o1 o2 : FVec Idealize.ShloMosaic.Ideal S16384x1024 .bf16)
    (w0 : FVec Idealize.ShloMosaic.Ideal S2048x2048 .f32) (w1 w2 : FVec Idealize.ShloMosaic.Ideal S1024x2048 .f32)
    (p : FVec Idealize.ShloMosaic.Ideal S16384x16384 .bf16) : FVec Idealize.ShloMosaic.Ideal S16384x2048 .bf16 :=
  truncf .bf16 (addf (addf
    (mulf (extractStridedSlice S16384x2048 ![0, 0] (extf .f32 (extractStridedSlice S16384x6144 ![0, 10240] p slices_S16384x16384_S16384x6144_0_10240) bitsLt_bf16_f32) slices_S16384x6144_S16384x2048_0_0)
      (Host.dotGeneral dot_S16384x2048_S2048x2048_S16384x2048_1_0_0_1_n_n none (extf .f32 o0 bitsLt_bf16_f32) w0))
    (mulf (extractStridedSlice S16384x2048 ![0, 2048] (extf .f32 (extractStridedSlice S16384x6144 ![0, 10240] p slices_S16384x16384_S16384x6144_0_10240) bitsLt_bf16_f32) slices_S16384x6144_S16384x2048_0_2048)
      (Host.dotGeneral dot_S16384x1024_S1024x2048_S16384x2048_1_0_0_1_n_n none (extf .f32 o1 bitsLt_bf16_f32) w1)))
    (mulf (extractStridedSlice S16384x2048 ![0, 4096] (extf .f32 (extractStridedSlice S16384x6144 ![0, 10240] p slices_S16384x16384_S16384x6144_0_10240) bitsLt_bf16_f32) slices_S16384x6144_S16384x2048_0_4096)
      (Host.dotGeneral dot_S16384x1024_S1024x2048_S16384x2048_1_0_0_1_n_n none (extf .f32 o2 bitsLt_bf16_f32) w2))) bitsLt_bf16_f32

theorem ref_apply (o0 : FVec Idealize.ShloMosaic.Ideal S16384x2048 .bf16) (o1 o2 : FVec Idealize.ShloMosaic.Ideal S16384x1024 .bf16)
    (w0 : FVec Idealize.ShloMosaic.Ideal S2048x2048 .f32) (w1 w2 : FVec Idealize.ShloMosaic.Ideal S1024x2048 .f32)
    (p : FVec Idealize.ShloMosaic.Ideal S16384x16384 .bf16) (r : Fin 16384) (d : Fin 2048) :
    ref o0 o1 o2 w0 w1 w2 p (ix2 r d)
      = (p (ix2 r ⟨10240 + d.val, by omega⟩) : EReal) * (∑ k : Fin 2048, (o0 (ix2 r k) : EReal) * w0 (ix2 k d))
        + (p (ix2 r ⟨10240 + (2048 + d.val), by omega⟩) : EReal) * (∑ k : Fin 1024, (o1 (ix2 r k) : EReal) * w1 (ix2 k d))
        + (p (ix2 r ⟨10240 + (4096 + d.val), by omega⟩) : EReal) * (∑ k : Fin 1024, (o2 (ix2 r k) : EReal) * w2 (ix2 k d)) := by
  unfold ref
  pointwise
  done

/-- The reference leaves this, and its arguments as they were. -/
theorem ref_run (m : (ℓ : Loc nD τ sig) → Buf (Elt Idealize.ShloMosaic.Ideal) ℓ) (ρ : Dev nD → PrngReg) :
    θ_run (defs (F := Idealize.ShloMosaic.Ideal)) (onTc (τ := τ) main) ⟨m, fun _ => 0, ρ⟩ fun r => ∀ c : Dev nD,
      r.2.mem ((c.tc : Thread nD τ).loc main_v16) = ref (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference2Ideal.Value.run m ρ

end Merge

end
-- ==== Proof.Merge.lean ====
/-
  THE BRANCHES AND THEIR GATES: what one block of the branch merge computes, what the reference computes, and that the kernel's whole result is the
  reference's.
-/
module

public import proofs.«01_k».proof.Proof.Gen.Kernel2Ideal.Value
public import proofs.«01_k».proof.Proof.MergeRef
public import Idealize.ShloMosaic.Lib.Pointwise
public import Idealize.ShloMosaic.Lib.Pipeline.ValueKit
public import Idealize.ShloMosaic.Lib.Pipeline.Covers

@[expose] public section

set_option maxRecDepth 16384

noncomputable section

namespace Merge

open Cert.Kernel2Ideal Cert.Kernel2Ideal.Gen Idealize.ShloMosaic Idealize.ShloMosaic.TcCoe Idealize.SL.Sem
open Idealize.ShloMosaic.Pipeline (Dat)

/-- One block of the merged branches: each gate times its branch's product, added in the branches' order. -/
theorem pay_apply (v0 : Vec Idealize.ShloMosaic.Ideal S512x1024 .bf16) (v2 : Vec Idealize.ShloMosaic.Ideal S512x2048 .bf16) (v3 : Vec Idealize.ShloMosaic.Ideal S2048x1024 .bf16) (v7 : Vec Idealize.ShloMosaic.Ideal S512x1024 .bf16)
    (v9 : Vec Idealize.ShloMosaic.Ideal S512x1024 .bf16) (v10 : Vec Idealize.ShloMosaic.Ideal S1024x1024 .bf16) (v15 : Vec Idealize.ShloMosaic.Ideal S512x1024 .bf16) (v17 : Vec Idealize.ShloMosaic.Ideal S512x1024 .bf16)
    (v18 : Vec Idealize.ShloMosaic.Ideal S1024x1024 .bf16) (r : Fin 512) (d : Fin 1024) :
    k0_pay1 v0 v2 v3 v7 v9 v10 v15 v17 v18 (ix2 r d)
      = (v0 (ix2 r d) : EReal) * (∑ k : Fin 2048, (v2 (ix2 r k) : EReal) * v3 (ix2 k d)) + (v7 (ix2 r d) : EReal) * (∑ k : Fin 1024, (v9 (ix2 r k) : EReal) * v10 (ix2 k d))
        + (v15 (ix2 r d) : EReal) * (∑ k : Fin 1024, (v17 (ix2 r k) : EReal) * v18 (ix2 k d)) := by
  unfold_payloads
  pointwise
  done

theorem zeros : (![0, 0] : Fin 2 → Nat) = fun _ => 0 := by
  funext a; fin_cases a <;> rfl

/-- What the body stores, of the blocks it loads whole. -/
theorem block (x0 : Vec Idealize.ShloMosaic.Ideal S512x2048 .bf16) (x1 x2 : Vec Idealize.ShloMosaic.Ideal S512x1024 .bf16) (x3 : Vec Idealize.ShloMosaic.Ideal S2048x1024 .bf16) (x4 x5 : Vec Idealize.ShloMosaic.Ideal S1024x1024 .bf16)
    (x6 x7 x8 : Vec Idealize.ShloMosaic.Ideal S512x1024 .bf16) (r : Fin 512) (d : Fin 1024) :
    View.canon (Val := Elt Idealize.ShloMosaic.Ideal) [⟨r0_0, k0_pay1 (View.ld x6 r0_0) (View.ld x0 r0_1) (View.ld x3 r0_2) (View.ld x7 r0_0) (View.ld x1 r0_0)
        (View.ld x4 r0_3) (View.ld x8 r0_0) (View.ld x2 r0_0) (View.ld x5 r0_3)⟩] (ix2 r d)
      = (x6 (ix2 r d) : EReal) * (∑ k : Fin 2048, (x0 (ix2 r k) : EReal) * x3 (ix2 k d)) + (x7 (ix2 r d) : EReal) * (∑ k : Fin 1024, (x1 (ix2 r k) : EReal) * x4 (ix2 k d))
        + (x8 (ix2 r d) : EReal) * (∑ k : Fin 1024, (x2 (ix2 r k) : EReal) * x5 (ix2 k d)) := by
  have e0 : ∀ X : Vec Idealize.ShloMosaic.Ideal S512x1024 .bf16, View.ld (Val := Elt Idealize.ShloMosaic.Ideal) X r0_0 = X := fun X => View.ld_unit_zero zeros _ X
  have e1 : View.ld (Val := Elt Idealize.ShloMosaic.Ideal) x0 r0_1 = x0 := View.ld_unit_zero zeros _ x0
  have e2 : View.ld (Val := Elt Idealize.ShloMosaic.Ideal) x3 r0_2 = x3 := View.ld_unit_zero zeros _ x3
  have e3 : ∀ X : Vec Idealize.ShloMosaic.Ideal S1024x1024 .bf16, View.ld (Val := Elt Idealize.ShloMosaic.Ideal) X r0_3 = X := fun X => View.ld_unit_zero zeros _ X
  rw [View.canon_unit_zero zeros, e0 x6, e1, e2, e0 x7, e0 x1, e3 x4, e0 x8, e0 x2, e3 x5]
  exact pay_apply _ _ _ _ _ _ _ _ _ r d

/-- A gate times a product, of equal gates, rows and columns. -/
theorem part {n : Nat} {a a' : EReal} {x x' w w' : Fin n → EReal} (h : a = a') (hx : ∀ k, x k = x' k) (hw : ∀ k, w k = w' k) :
    a * (∑ k, x k * w k) = a' * ∑ k, x' k * w' k := by
  rw [h, funext hx, funext hw]

theorem index0 : ∀ t : Fin cfg0.N, win0_0.index t = ![(grid0.coords t 1).val, 0] :=
  (by decide +kernel : ∀ t : Fin grid0.N, _)
theorem index1 : ∀ t : Fin cfg0.N, win0_1.index t = ![(grid0.coords t 1).val, 0] :=
  (by decide +kernel : ∀ t : Fin grid0.N, _)
theorem index2 : ∀ t : Fin cfg0.N, win0_2.index t = ![(grid0.coords t 1).val, 0] :=
  (by decide +kernel : ∀ t : Fin grid0.N, _)
theorem index3 : ∀ t : Fin cfg0.N, win0_3.index t = ![0, (grid0.coords t 0).val] :=
  (by decide +kernel : ∀ t : Fin grid0.N, _)
theorem index4 : ∀ t : Fin cfg0.N, win0_4.index t = ![0, (grid0.coords t 0).val] :=
  (by decide +kernel : ∀ t : Fin grid0.N, _)
theorem index5 : ∀ t : Fin cfg0.N, win0_5.index t = ![0, (grid0.coords t 0).val] :=
  (by decide +kernel : ∀ t : Fin grid0.N, _)
theorem index6 : ∀ t : Fin cfg0.N, win0_6.index t = ![(grid0.coords t 1).val, 10 + (grid0.coords t 0).val] :=
  (by decide +kernel : ∀ t : Fin grid0.N, _)
theorem index7 : ∀ t : Fin cfg0.N, win0_7.index t = ![(grid0.coords t 1).val, 12 + (grid0.coords t 0).val] :=
  (by decide +kernel : ∀ t : Fin grid0.N, _)
theorem index8 : ∀ t : Fin cfg0.N, win0_8.index t = ![(grid0.coords t 1).val, 14 + (grid0.coords t 0).val] :=
  (by decide +kernel : ∀ t : Fin grid0.N, _)
theorem index9 : ∀ t : Fin cfg0.N, win0_9.index t = ![(grid0.coords t 1).val, (grid0.coords t 0).val] :=
  (by decide +kernel : ∀ t : Fin grid0.N, _)

/-- Block `(β 0, β 1)` is the point's of column tile `β 1` and row tile `β 0`. -/
theorem covers : (cfg0.win 9).Covers :=
  (cfg0.win 9).covers_of_indexMap_surj rfl (by decide) fun β => by
    have key : ∀ (x : Fin 32) (y : Fin 2), ∃ i : grid0.Coords, cc0_transform_9 i = ![x.val, y.val] := by decide +kernel
    obtain ⟨i, hi⟩ := key (β 0) (β 1)
    exact ⟨i, fun a => by
      refine (congrFun hi a).trans ?_
      fin_cases a <;> rfl⟩

variable (m : (ℓ : Loc nD τ sig) → Buf (Elt Idealize.ShloMosaic.Ideal) ℓ)

/-- The weights as the launch sees them: the arguments, cast. -/
theorem w0_eq (c : Dev nD) (j : S2048x2048.Idx) : V m c main_v0 j = m ((c.tc : Thread nD τ).loc main_arg3) j := by
  unfold V hostOps0
  after_results_simp <;> rfl
theorem w1_eq (c : Dev nD) (j : S1024x2048.Idx) : V m c main_v1 j = m ((c.tc : Thread nD τ).loc main_arg4) j := by
  unfold V hostOps0
  after_results_simp <;> rfl
theorem w2_eq (c : Dev nD) (j : S1024x2048.Idx) : V m c main_v2 j = m ((c.tc : Thread nD τ).loc main_arg5) j := by
  unfold V hostOps0
  after_results_simp <;> rfl

/-- What the kernel leaves in its result. -/
abbrev kernelOut (c : Dev nD) : Buf (Elt Idealize.ShloMosaic.Ideal) ((c.tc : Thread nD τ).loc main_v3) := (dats m 0 c).arrAt 9 cfg0.N

theorem final (c : Dev nD) :
    kernelOut m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 9 _ covers fun t hf y => ?_
  blk_simp
  rw [after0_9]
  have b0 : (grid0.coords t 0).val < 2 := (grid0.coords t 0).isLt
  have b1 : (grid0.coords t 1).val < 32 := (grid0.coords t 1).isLt
  have hy0 : (y 0).val < 512 := (y 0).isLt
  have hy1 : (y 1).val < 1024 := (y 1).isLt
  have ey : (win0_9.blk t).view.emb y
      = ix2 (n0 := 16384) (n1 := 2048) ⟨(grid0.coords t 1).val * 512 + (y 0).val, by omega⟩ ⟨(grid0.coords t 0).val * 1024 + (y 1).val, by omega⟩ := by
    blk_ext [index9 t, ix2]
  rw [ey, ref_apply]
  unfold out0_9
  refine (congrArg _ (eq_ix2 (n0 := 512) (n1 := 1024) y)).trans ?_
  refine (block (iblk m c 0 t) (iblk m c 1 t) (iblk m c 2 t) (iblk m c 3 t) (iblk m c 4 t) (iblk m c 5 t) (iblk m c 6 t) (iblk m c 7 t) (iblk m c 8 t) (y 0) (y 1)).trans ?_
  refine congrArg₂ (fun a b : EReal => a + b) (congrArg₂ (fun a b : EReal => a + b) (part ?_ ?_ ?_) (part ?_ ?_ ?_)) (part ?_ ?_ ?_)
  · blk_simp [iblk]; rw [V_main_arg6]; congr 1; blk_ext [index6 t, ix2]
  · intro k; blk_simp [iblk]; rw [V_main_arg0]; congr 1; blk_ext [index0 t, ix2]
  · intro k; blk_simp [iblk]; rw [w0_eq]; congr 1; blk_ext [index3 t, ix2]
  · blk_simp [iblk]; rw [V_main_arg6]; congr 1; blk_ext [index7 t, ix2]
  · intro k; blk_simp [iblk]; rw [V_main_arg1]; congr 1; blk_ext [index1 t, ix2]
  · intro k; blk_simp [iblk]; rw [w1_eq]; congr 1; blk_ext [index4 t, ix2]
  · blk_simp [iblk]; rw [V_main_arg6]; congr 1; blk_ext [index8 t, ix2]
  · intro k; blk_simp [iblk]; rw [V_main_arg2]; congr 1; blk_ext [index2 t, ix2]
  · intro k; blk_simp [iblk]; rw [w2_eq]; congr 1; blk_ext [index5 t, ix2]

end Merge

end
-- ==== Proof.ProjSetup.lean ====
/-
  The input projection's launch: what the launch theorems take of the host operations before the region, the windows' blocks, and the
  staging and scratch memrefs the body is handed.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Tactic

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The argument arrays. -/
abbrev args : List (Ref sig .tc) :=
  [main_arg0, main_arg1, main_arg2, main_arg3, main_arg4, main_arg5, main_arg6, main_arg7, main_arg8, main_arg9]

/-- No host operation before the region writes an argument array: the region finds each as launched. -/
theorem V_arg (c : Dev nD) (b : Ref sig .tc) (hb : b ∈ args) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert b; decide)))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, for any proof data whose array is the region's (`hA`) and whose body
leaves the block in place (`hafter`). -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- A run that leaves every array of the pipeline at the proof data's contents, and every other buffer as the region found it, leaves the
    argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_arg m c main_arg0 (by decide)))),
      ((h c).1 1).trans (((dats 0 c).arrAt_in 1 rfl _).trans ((hA c 1).trans (V_arg m c main_arg1 (by decide)))),
      ((h c).2 main_arg2 (Pipeline.mem_restRefs_of main_arg2 (by decide) (by decide))).trans (V_arg m c main_arg2 (by decide)),
      ((h c).2 main_arg3 (Pipeline.mem_restRefs_of main_arg3 (by decide) (by decide))).trans (V_arg m c main_arg3 (by decide)),
      ((h c).2 main_arg4 (Pipeline.mem_restRefs_of main_arg4 (by decide) (by decide))).trans (V_arg m c main_arg4 (by decide)),
      ((h c).2 main_arg5 (Pipeline.mem_restRefs_of main_arg5 (by decide) (by decide))).trans (V_arg m c main_arg5 (by decide)),
      ((h c).2 main_arg6 (Pipeline.mem_restRefs_of main_arg6 (by decide) (by decide))).trans (V_arg m c main_arg6 (by decide)),
      ((h c).2 main_arg7 (Pipeline.mem_restRefs_of main_arg7 (by decide) (by decide))).trans (V_arg m c main_arg7 (by decide)),
      ((h c).2 main_arg8 (Pipeline.mem_restRefs_of main_arg8 (by decide) (by decide))).trans (V_arg m c main_arg8 (by decide)),
      ((h c).2 main_arg9 (Pipeline.mem_restRefs_of main_arg9 (by decide) (by decide))).trans (V_arg m c main_arg9 (by decide))⟩) h

/-- One staging buffer of the output window, through which its contents are stated. -/
abbrev VO0_7 : View sig .tc .vmem S512x1024 .bf16 := (Memref.whole cc0_stg7_0 : Memref sig .tc .vmem S512x1024 .bf16).view
/-- Each window's current staging memref at a point, and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
/-- The scratch: the tile of the weights the body keeps between points. -/
abbrev scM0_0 : Memref sig .tc .vmem S2048x1024 .bf16 := Memref.whole cc0_scratch0

/-- The region's invariant before the first point: the scratch at anything, the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Proj

end
-- ==== Proof.ProjRun.lean ====
/-
  One grid point of the input projection: the branch that casts the weights' tile into the scratch (`first`), and the whole body (`run`), which leaves
  the tile's output block named (`outB`) by the column tile's kind.
-/
module

public import proofs.«01_k».proof.Proof.ProjSetup
public import Idealize.ShloMosaic.Lib.Pipeline.FrameBody
public import Idealize.ShloMosaic.Lib.Tactic
public import Idealize.ShloMosaic.Lib.Ring
public import Idealize.ShloMosaic.Lib.Pipeline.Value
public import Idealize.ShloMosaic.Lib.WritesUnit

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the first row block of a column tile. -/
abbrev start (i : grid0.Coords) : Prop :=
  Scalar.cmpi .ne (Scalar.extui (Scalar.cmpi .eq (BitVec.ofNat 32 (i 1).val) 0#32)) 0#32 = 1#1

theorem zeros : (![0, 0] : Fin 2 → Nat) = fun _ => 0 := by decide

/-- A whole load of a whole buffer reads what the buffer holds. -/
theorem whole_load {a b : Nat} {e : EltTy} (v : Memref sig .tc .vmem ⟨2, ![a, b]⟩ e) (hv : v.IsWhole) (x : Vec F ⟨2, ![a, b]⟩ e)
    (inb : ∀ k, (![0, 0] : Fin 2 → Nat) k + (⟨2, ![a, b]⟩ : Shape).size k ≤ (⟨2, ![a, b]⟩ : Shape).size k) :
    View.readAt (Elt F) v.view (Rect.unit (s := ⟨2, ![a, b]⟩) ![0, 0] (⟨2, ![a, b]⟩ : Shape).size inb).toLoadRect (hv.unread x) = x := by
  have h : View.ld x (Rect.unit (s := ⟨2, ![a, b]⟩) ![0, 0] (⟨2, ![a, b]⟩ : Shape).size inb) = x := View.ld_unit_zero zeros _ x
  refine Eq.trans ?_ h
  funext y
  rw [View.readAt_apply, hv.read_unread]

/-- A whole store over a whole buffer leaves what was stored. -/
theorem whole_store {a b : Nat} {e : EltTy} (v : Memref sig .tc .vmem ⟨2, ![a, b]⟩ e) (f : v.view.ty.Contents (Elt F)) (x : Vec F ⟨2, ![a, b]⟩ e)
    (inb : ∀ k, (![0, 0] : Fin 2 → Nat) k + (⟨2, ![a, b]⟩ : Shape).size k ≤ (⟨2, ![a, b]⟩ : Shape).size k) :
    v.view.read (Elt F) (v.view.writes (Elt F) f [⟨Rect.unit (s := ⟨2, ![a, b]⟩) ![0, 0] (⟨2, ![a, b]⟩ : Shape).size inb, x⟩]) = x := by
  funext y
  exact View.read_writes_cons_unit_of_mem (v := v.view) (f := f) inb x [] y y zeros fun k => (Nat.zero_add _).symm

/-- The whole of the scratch, as a rectangle. -/
abbrev rW : Rect S2048x1024 := Rect.unit (s := S2048x1024) ![0, 0] S2048x1024.size inb_S2048x1024_S2048x1024_0_0

/-- The first branch: if the scratch holds the cast tile already where the branch is not taken, it holds the cast tile after. -/
theorem first (c : Dev nD) (i : grid0.Coords) (arg3 : Memref sig .tc .vmem S2048x1024 .f32) (harg3 : arg3.IsWhole)
    (arg10 : Memref sig .tc .vmem S2048x1024 .bf16) (harg10 : arg10.IsWhole) (x1 : Vec F S2048x1024 .f32) (R : sProp 𝕄) (E : Set ℕ) (K : PUnit → sProp 𝕄)
    (jp : PUnit.{1} → Prog (TpuEff nD τ sig (Elt F) Λ₀ .tc) PUnit)
    (hjp : iprop(owns (c : Thread nD τ) arg3 fullShare x1 ∗ owns (c : Thread nD τ) arg10 fullShare (k0_pay1 x1) ∗ R)
      ⊢ wp frame (wpE (defs₀ (F := F)) Variants.none c none) E (jp ⟨⟩) K) :
    iprop(owns (c : Thread nD τ) arg3 fullShare x1 ∗ (∃ d, ⌜¬ start i → d = k0_pay1 x1⌝ ∗ owns (c : Thread nD τ) arg10 fullShare d) ∗ R)
      ⊢ wp frame (wpE (defs₀ (F := F)) Variants.none c none) E
        (if _h : start i then do
          let v30 : Vec F S2048x1024 .f32 ← Prog.lift (.load arg3 rW.toLoadRect (View.loadsAt_vmem h_S2048x1024))
          let _v32 : Vec F S2048x1024 .bf16 ← Prog.lift (.load arg10 rW.toLoadRect (View.loadsAt_vmem h_S2048x1024))
          Prog.lift (.store arg10 rW (k0_pay1 v30) Finset.univ (View.stores_vmem h_S2048x1024 (harg10.storeExact_slice rfl _ packedbf16_S2048x1024_S2048x1024_0_0) (fun _ => rfl)) (.inl rfl))
          jp ⟨⟩
        else jp ⟨⟩) K := by
  by_cases h : start i
  · rw [dif_pos h]
    unfold owns at *
    iintro ⟨⟨%f1, %hf1, H1⟩, ⟨%d, -, %f2, %hf2, H2⟩, HR⟩
    obtain rfl := harg3.eq_unread hf1; obtain rfl := harg10.eq_unread hf2
    sl_exec
    rw [whole_load arg3 harg3 x1]
    iapply hjp
    isplitl [H1]
    · iexists _; isplitr; · ipureintro; exact harg3.read_unread _
      iexact H1
    isplitl [H2]
    · iexists _; isplitr; swap; · iexact H2
      ipureintro; exact whole_store arg10 _ _ _
    iexact HR
  · rw [dif_neg h]
    iintro ⟨H1, ⟨%d, %hd, H2⟩, HR⟩
    rw [hd h]
    iapply hjp
    isplitl [H1]; · iexact H1
    isplitl [H2]; · iexact H2
    iexact HR

/-- A column tile of heads of 128 columns: each head normed, scaled and rotated. -/
def ropeB (x0 : Vec F S512x2048 .bf16) (w : Vec F S2048x1024 .bf16) (x2 : Vec F S1x1024 .f32) (x4 x5 x6 : Vec F S512x128 .f32) :
    List (View.Piece (Elt F) S512x1024 .bf16) :=
  let v5 := k0_pay2 x0 w
  let v31 := k0_pay11 x4
  let v33 := k0_pay12 x5
  let v35 := k0_pay13 x6
  let v37 := k0_pay14 x2
  let v135 := k0_pay26 v37 (k0_pay24 v5) (k0_pay25 v5)
  [⟨Rect.unit (s := S512x1024) ![0, 896] S512x128.size inb_S512x1024_S512x128_0_896, k0_pay4 v31 v33 v35 (k0_pay27 v5 v37)⟩,
   ⟨Rect.unit (s := S512x1024) ![0, 768] S512x128.size inb_S512x1024_S512x128_0_768, k0_pay3 v35 v135 (k0_pay34 v31 v135) (k0_pay35 v33 v135)⟩,
   ⟨Rect.unit (s := S512x1024) ![0, 640] S512x128.size inb_S512x1024_S512x128_0_640, k0_pay33 v31 v33 v35 (k0_pay23 v5 v37)⟩,
   ⟨Rect.unit (s := S512x1024) ![0, 512] S512x128.size inb_S512x1024_S512x128_0_512, k0_pay32 v31 v33 v35 (k0_pay22 v5 v37)⟩,
   ⟨Rect.unit (s := S512x1024) ![0, 384] S512x128.size inb_S512x1024_S512x128_0_384, k0_pay31 v31 v33 v35 (k0_pay21 v5 v37)⟩,
   ⟨Rect.unit (s := S512x1024) ![0, 256] S512x128.size inb_S512x1024_S512x128_0_256,
     k0_pay30 v31 v33 v35 (k0_pay20 v37 (k0_pay17 v5) (k0_pay18 v5) (k0_pay19 (F := F)))⟩,
   ⟨Rect.unit (s := S512x1024) ![0, 128] S512x128.size inb_S512x1024_S512x128_0_128, k0_pay29 v31 v33 v35 (k0_pay16 v5 x2)⟩,
   ⟨Rect.unit (s := S512x1024) ![0, 0] S512x128.size inb_S512x1024_S512x128_0_0, k0_pay28 v31 v33 v35 (k0_pay15 v5 x2)⟩]

/-- The column tile of heads of 256 columns: each head normed and scaled. -/
def memB (x0 : Vec F S512x2048 .bf16) (w : Vec F S2048x1024 .bf16) (x2 : Vec F S1x1024 .f32) : List (View.Piece (Elt F) S512x1024 .bf16) :=
  let v5 := k0_pay2 x0 w
  [⟨Rect.unit (s := S512x1024) ![0, 768] S512x256.size inb_S512x1024_S512x256_0_768, k0_pay8 (k0_pay36 x2) (k0_pay40 v5) (k0_pay41 v5)⟩,
   ⟨Rect.unit (s := S512x1024) ![0, 512] S512x256.size inb_S512x1024_S512x256_0_512, k0_pay7 (k0_pay39 v5 x2)⟩,
   ⟨Rect.unit (s := S512x1024) ![0, 256] S512x256.size inb_S512x1024_S512x256_0_256, k0_pay6 (k0_pay38 v5 x2)⟩,
   ⟨Rect.unit (s := S512x1024) ![0, 0] S512x256.size inb_S512x1024_S512x256_0_0, k0_pay5 (k0_pay37 v5 x2)⟩]

theorem ropeB_cover (x0 : Vec F S512x2048 .bf16) (w : Vec F S2048x1024 .bf16) (x2 : Vec F S1x1024 .f32) (x4 x5 x6 : Vec F S512x128 .f32)
    (y : S512x1024.Idx) : ∃ p ∈ ropeB x0 w x2 x4 x5 x6, y ∈ p.1.set :=
  View.cover_of_tiledL (ropeB x0 w x2 x4 x5 x6) S512x128.size (by sl_kernel_rfl) y

theorem memB_cover (x0 : Vec F S512x2048 .bf16) (w : Vec F S2048x1024 .bf16) (x2 : Vec F S1x1024 .f32)
    (y : S512x1024.Idx) : ∃ p ∈ memB x0 w x2, y ∈ p.1.set :=
  View.cover_of_tiledL (memB x0 w x2) S512x256.size (by sl_kernel_rfl) y

/-- What the body leaves in the output's block. -/
def outB (i : grid0.Coords) (x0 : Vec F S512x2048 .bf16) (w : Vec F S2048x1024 .bf16) (x2 x3 : Vec F S1x1024 .f32) (x4 x5 x6 : Vec F S512x128 .f32) :
    Vec F S512x1024 .bf16 :=
  if k0_cond2 i = 1#1 then View.canon (ropeB x0 w x2 x4 x5 x6)
  else if k0_cond3 i = 1#1 then View.canon (memB x0 w x2)
  else if k0_cond4 i = 1#1 then k0_pay9 x0 w x3
  else k0_pay10 x0 w

/-- What the grid gives of a point: its column tile is of exactly one kind. -/
def OneKind (i : grid0.Coords) : Prop :=
  (k0_cond2 i = 1#1 ∧ ¬k0_cond3 i = 1#1 ∧ ¬k0_cond4 i = 1#1 ∧ ¬k0_cond5 i = 1#1)
  ∨ (¬k0_cond2 i = 1#1 ∧ k0_cond3 i = 1#1 ∧ ¬k0_cond4 i = 1#1 ∧ ¬k0_cond5 i = 1#1)
  ∨ (¬k0_cond2 i = 1#1 ∧ ¬k0_cond3 i = 1#1 ∧ k0_cond4 i = 1#1 ∧ ¬k0_cond5 i = 1#1)
  ∨ (¬k0_cond2 i = 1#1 ∧ ¬k0_cond3 i = 1#1 ∧ ¬k0_cond4 i = 1#1 ∧ k0_cond5 i = 1#1)

set_option maxHeartbeats 1000000 in
/-- The body at one point: it leaves the inputs as they were, the cast tile in the scratch and the tile's block in the output. -/
theorem run (c : Dev nD) (i : grid0.Coords) (arg2 : Memref sig .tc .vmem S512x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1024 .bf16) (harg9 : arg9.IsWhole) (arg10 : Memref sig .tc .vmem S2048x1024 .bf16) (harg10 : arg10.IsWhole) (hk : OneKind i)
    (x0 : Vec F S512x2048 .bf16) (x1 : Vec F S2048x1024 .f32) (x2 : Vec F S1x1024 .f32) (x3 : Vec F S1x1024 .f32)
    (x4 x5 x6 : Vec F S512x128 .f32) (E : Set ℕ) (K : PUnit → sProp 𝕄) :
    iprop(owns (c : Thread nD τ) arg3 fullShare x1
        ∗ (∃ d, ⌜¬ start i → d = k0_pay1 x1⌝ ∗ owns (c : Thread nD τ) arg10 fullShare d)
        ∗ owns (c : Thread nD τ) arg2 fullShare x0 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6
        ∗ (∃ d, owns (c : Thread nD τ) arg9 fullShare d)
        ∗ (iprop(owns (c : Thread nD τ) arg3 fullShare x1 ∗ owns (c : Thread nD τ) arg10 fullShare (k0_pay1 x1)
            ∗ owns (c : Thread nD τ) arg2 fullShare x0 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6
            ∗ owns (c : Thread nD τ) arg9 fullShare (outB i x0 (k0_pay1 x1) x2 x3 x4 x5 x6)) -∗ K ⟨⟩))
      ⊢ wp frame (wpE (defs₀ (F := F)) Variants.none c none) E (cc0_input_projection i arg2 harg2 arg3 harg3 arg4 harg4 arg5 harg5 arg6 harg6 arg7 harg7 arg8 harg8 arg9 harg9 arg10 harg10) K := by
  simp only [cc0_input_projection_eq_skeleton]; unfold cc0_input_projection_skel
  lift_lets
  extract_lets a1 a2 a3 a4 j5 jp
  refine first c i arg3 harg3 arg10 harg10 x1 _ E K jp ?_
  unfold jp j5
  clear jp j5
  unfold owns
  iintro ⟨⟨%f1, %hf1, H1⟩, ⟨%fs, %hfs, HS⟩, ⟨%f0, %hf0, H0⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg10.eq_unread hfs
  rcases hk with ⟨c2, c3, c4, c5⟩ | ⟨c2, c3, c4, c5⟩ | ⟨c2, c3, c4, c5⟩ | ⟨c2, c3, c4, c5⟩
  all_goals
    sl_exec (disch := first | sl_exact c2 | sl_exact c3 | sl_exact c4 | sl_exact c5)
    sl_step
    simp only [whole_load arg2 harg2 x0, whole_load arg4 harg4 x2, whole_load arg5 harg5 x3, whole_load arg6 harg6 x4,
      whole_load arg7 harg7 x5, whole_load arg8 harg8 x6, whole_load arg10 harg10 (k0_pay1 x1)]
    iapply Hk
    isplitl [H1]
    · iexists _; isplitr; · ipureintro; exact harg3.read_unread _
      iexact H1
    isplitl [HS]
    · iexists _; isplitr; · ipureintro; exact harg10.read_unread _
      iexact HS
    isplitl [H0]
    · iexists _; isplitr; · ipureintro; exact harg2.read_unread _
      iexact H0
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; swap; · iexact H7
    ipureintro
    unfold outB
  · rw [if_pos c2]
    delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17
    simp only [whole_load arg2 harg2 x0, whole_load arg4 harg4 x2, whole_load arg5 harg5 x3, whole_load arg6 harg6 x4,
      whole_load arg7 harg7 x5, whole_load arg8 harg8 x6, whole_load arg10 harg10 (k0_pay1 x1)]
    exact View.read_writes_eq_canon _ _ (ropeB x0 (k0_pay1 x1) x2 x4 x5 x6) (ropeB_cover x0 (k0_pay1 x1) x2 x4 x5 x6)
  · rw [if_neg c2, if_pos c3]
    delta run.sl.r_18 run.sl.r_19 run.sl.r_20 run.sl.r_21 run.sl.r_22 run.sl.r_23
    simp only [whole_load arg2 harg2 x0, whole_load arg4 harg4 x2, whole_load arg5 harg5 x3, whole_load arg6 harg6 x4,
      whole_load arg7 harg7 x5, whole_load arg8 harg8 x6, whole_load arg10 harg10 (k0_pay1 x1)]
    exact View.read_writes_eq_canon _ _ (memB x0 (k0_pay1 x1) x2) (memB_cover x0 (k0_pay1 x1) x2)
  · rw [if_neg c2, if_neg c3, if_pos c4]
    exact whole_store arg9 _ _ _
  · rw [if_neg c2, if_neg c3, if_neg c4]
    exact whole_store arg9 _ _ _

end Proj

end
-- ==== Proof.ProjFrame.lean ====
/-
  The input projection's frame: the run of the launch from the body's triple at each point, every array at what the points leave in it.
-/
module

public import proofs.«01_k».proof.Proof.ProjRun
public import Idealize.ShloMosaic.Lib.Claim
public import Idealize.ShloMosaic.Lib.Pipeline.ValueKit
public import Idealize.ShloMosaic.Lib.Quiescent
public import Idealize.ShloMosaic.Lib.Pipeline.FrameBody
public import Idealize.ShloMosaic.Lib.Tactic

@[expose] public section

set_option maxRecDepth 16384

noncomputable section

namespace Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- A point starts a column tile where its row block is the first. -/
theorem start_iff : ∀ t : Fin cfg0.N, start (grid0.coords t) ↔ t.val % 32 = 0 :=
  (by decide +kernel : ∀ t : Fin grid0.N, start (grid0.coords t) ↔ t.val % 32 = 0)

/-- Each point's column tile is of exactly one kind. -/
theorem oneKind : ∀ t : Fin cfg0.N, OneKind (grid0.coords t) :=
  (by unfold OneKind; decide +kernel : ∀ t : Fin grid0.N, OneKind (grid0.coords t))

/-- The output is stored at every point. -/
theorem live (t : Fin cfg0.N) : cfg0.idle 7 (grid0.coords t) = false := by
  have h := oneKind t
  show (!(k0_cond2 (grid0.coords t) == 1#1) && !(k0_cond3 (grid0.coords t) == 1#1) && !(k0_cond4 (grid0.coords t) == 1#1) && !(k0_cond5 (grid0.coords t) == 1#1)) = false
  rcases h with ⟨h, -⟩ | ⟨-, h, -⟩ | ⟨-, -, h, -⟩ | ⟨-, -, -, h⟩ <;> simp [h]

/-! ## What the scratch holds -/

/-- After a point the scratch holds the cast of the weights' tile the point was given. -/
def held (c : Dev nD) (t : Fin cfg0.N) : Vec F S2048x1024 .bf16 := k0_pay1 (iblk m c 1 t)

/-- The weights' window moves with the column tile only. -/
theorem index_w : ∀ t : Fin cfg0.N, win0_1.index t = ![0, t.val / 32] :=
  (by decide +kernel : ∀ t : Fin grid0.N, win0_1.index t = ![0, t.val / 32])

/-- So within a column tile the scratch's contents stay. -/
theorem held_pred (c : Dev nD) (t : Fin cfg0.N) (h : t.val % 32 ≠ 0) : held m c ⟨t.val - 1, lt_of_le_of_lt (Nat.sub_le _ _) t.isLt⟩ = held m c t := by
  unfold held iblk
  refine congrArg k0_pay1 (funext fun y => ?_)
  show ((win0_1.blk _).view.read (Elt F) _) y = ((win0_1.blk t).view.read (Elt F) _) y
  rw [View.read_apply, View.read_apply]
  have e : (t.val - 1) / 32 = t.val / 32 := by omega
  congr 1
  blk_ext [index_w t, index_w ⟨t.val - 1, lt_of_le_of_lt (Nat.sub_le _ _) t.isLt⟩, e]

/-- The region invariant before position `n`: before the first point the scratch at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (held m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (held m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (held m c ⟨n - 1, by omega⟩)) ∗ (∃ r, prngReg c r)) := by
  cases n with
  | zero => exact absurd rfl hz
  | succ n => rfl

/-! ## The proof data -/

/-- What point `t` leaves in the output's block. -/
def outAt (c : Dev nD) (t : Fin cfg0.N) : Vec F S512x1024 .bf16 :=
  outB (grid0.coords t) (iblk m c 0 t) (held m c t) (iblk m c 2 t) (iblk m c 3 t) (iblk m c 4 t) (iblk m c 5 t) (iblk m c 6 t)

/-- After the body at a point each input's buffer is at its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The scratch at entry: at anything where the point starts a column tile, else at the tile's cast already. -/
theorem entry (c : Dev nD) (t : Fin cfg0.N) :
    (dats m 0 c).Φ t.castSucc ⊢ iprop((∃ d, ⌜¬ start (grid0.coords t) → d = held m c t⌝ ∗ owns (c : Thread nD τ) scM0_0 fullShare d) ∗ (∃ r, prngReg c r)) := by
  rw [PhiS_castSucc]
  by_cases hz : t.val = 0
  · rw [PhiS_zero m c _ _ hz, PhiA0_eq]
    iintro ⟨⟨%d, HS⟩, Hg⟩
    isplitl [HS]
    · iexists d; isplitr
      · ipureintro; exact fun h => absurd ((start_iff t).mpr (by omega)) h
      iexact HS
    iexact Hg
  · rw [PhiS_pos m c _ _ hz]
    iintro ⟨HS, Hg⟩
    isplitl [HS]
    · iexists _; isplitr; swap; · iexact HS
      ipureintro; exact fun h => held_pred m c t fun e => h ((start_iff t).mpr e)
    iexact Hg

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from by
    unfold Dat.leavesExact; rw [show cfg0.idle 0 (grid0.coords t) = false from rfl, after0_0]]
  rw [show (dats m 0 c).leavesExact 1 t = owns (c : Thread nD τ) (ms0_1 t) fullShare (iblk m c 1 t) from by
    unfold Dat.leavesExact; rw [show cfg0.idle 1 (grid0.coords t) = false from rfl, after0_1]]
  rw [show (dats m 0 c).leavesExact 2 t = owns (c : Thread nD τ) (ms0_2 t) fullShare (iblk m c 2 t) from by
    unfold Dat.leavesExact; rw [show cfg0.idle 2 (grid0.coords t) = false from rfl, after0_2]]
  rw [show (dats m 0 c).leavesExact 3 t = owns (c : Thread nD τ) (ms0_3 t) fullShare (iblk m c 3 t) from by
    unfold Dat.leavesExact; rw [show cfg0.idle 3 (grid0.coords t) = false from rfl, after0_3]]
  rw [show (dats m 0 c).leavesExact 4 t = owns (c : Thread nD τ) (ms0_4 t) fullShare (iblk m c 4 t) from by
    unfold Dat.leavesExact; rw [show cfg0.idle 4 (grid0.coords t) = false from rfl, after0_4]]
  rw [show (dats m 0 c).leavesExact 5 t = owns (c : Thread nD τ) (ms0_5 t) fullShare (iblk m c 5 t) from by
    unfold Dat.leavesExact; rw [show cfg0.idle 5 (grid0.coords t) = false from rfl, after0_5]]
  rw [show (dats m 0 c).leavesExact 6 t = owns (c : Thread nD τ) (ms0_6 t) fullShare (iblk m c 6 t) from by
    unfold Dat.leavesExact; rw [show cfg0.idle 6 (grid0.coords t) = false from rfl, after0_6]]
  rw [show (dats m 0 c).leavesExact 7 t = owns (c : Thread nD τ) (ms0_7 t) fullShare (outAt m c t) from by
    unfold Dat.leavesExact; rw [live t, after0_7]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨HS, Hg⟩ := entry m c t $$ HΦ
  iapply run c (grid0.coords t) _ _ _ _ _ _ _ _ _ _ _ _ _ _ _ _ _ _ (oneKind t) (iblk m c 0 t) (iblk m c 1 t) (iblk m c 2 t) (iblk m c 3 t) (iblk m c 4 t) (iblk m c 5 t) (iblk m c 6 t)
  isplitl [H1]; · iexact H1
  isplitl [HS]; · iexact HS
  isplitl [H0]; · iexact H0
  isplitl [H2]; · iexact H2
  isplitl [H3]; · iexact H3
  isplitl [H4]; · iexact H4
  isplitl [H5]; · iexact H5
  isplitl [H6]; · iexact H6
  isplitl [H7]; · iexists _; iexact H7
  iintro ⟨H1, HS, H0, H2, H3, H4, H5, H6, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- `θ_run_frame_track`'s implicit arguments are found by unifying its conclusion with this one, which takes unfolding plain
-- definitions in a metavariable's type
set_option backward.isDefEq.respectTransparency.types false in
/-- The run, and every semaphore counter at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Proj

end
-- ==== Proof.ProjMath.lean ====
/-
  THE INPUT PROJECTION'S MATHEMATICS at one element: a row over the root of its mean square, and the rotation of the first 32 of 128 columns
  by an angle, in the two ways it is written.
-/
module

public import Idealize.ShloMosaic.Lib.Pointwise

@[expose] public section

set_option maxRecDepth 16384

noncomputable section

namespace Proj

open Idealize.ShloMosaic

/-- One entry of a row over the root of the row's mean square (`q` the count, as printed), times its gain. -/
def nrm {n : ℕ} (x : Fin n → EReal) (q : BitVec 32) (g : EReal) (d : Fin n) : EReal :=
  x d * Ideal.rsqrt (Ideal.div (∑ l, x l * x l) (Ideal.ofBits FTy.f32 q) + Ideal.ofBits FTy.f32 0x358637BD#32) * g

/-- A gain that is a product may be multiplied in after the other factor. -/
theorem nrm_mul {n : ℕ} (x : Fin n → EReal) (q : BitVec 32) (g s : EReal) (d : Fin n) : nrm x q (g * s) d = nrm x q g d * s := by
  unfold nrm; exact (mul_assoc _ _ _).symm

/-- The rotation as a sum of three products: a column, the one 16 after it and the one 16 before it, each times its factor. -/
def turn (y : Fin 128 → EReal) (c a b : EReal) (d : Fin 128) : EReal :=
  y d * c + y ⟨(d.val + 16) % 128, Nat.mod_lt _ (by decide)⟩ * a + y ⟨(d.val + 112) % 128, Nat.mod_lt _ (by decide)⟩ * b

/-- The rotation of the first 32 columns, pair by pair. -/
def rope (y : Fin 128 → EReal) (co si : Fin 16 → EReal) (d : Fin 128) : EReal :=
  if h : d.val < 16 then y d * co ⟨d.val, h⟩ - y ⟨d.val + 16, by omega⟩ * si ⟨d.val, h⟩
  else if h' : d.val < 32 then y d * co ⟨d.val - 16, by omega⟩ + y ⟨d.val - 16, by omega⟩ * si ⟨d.val - 16, by omega⟩
  else y d

/-- The rotation as a concatenation of three slices reads. -/
theorem rope_read (y : Fin 128 → EReal) (co si : Fin 16 → EReal) (d : ℕ) (hd : d < 128) :
    (if h : d < 16 then y ⟨d, hd⟩ * co ⟨d, h⟩ - y ⟨16 + d, by omega⟩ * si ⟨d, h⟩
      else if h' : d - 16 < 16 then y ⟨16 + (d - 16), by omega⟩ * co ⟨d - 16, h'⟩ + y ⟨d - 16, by omega⟩ * si ⟨d - 16, h'⟩
      else y ⟨32 + (d - 16 - 16), by omega⟩) = rope y co si ⟨d, hd⟩ := by
  unfold rope
  by_cases h : d < 16
  · simp only [dif_pos h, Nat.add_comm 16 d]
  · by_cases h' : d < 32
    · have h2 : d - 16 < 16 := by omega
      simp only [dif_neg h, dif_pos h', dif_pos h2, show 16 + (d - 16) = d by omega]
    · have h2 : ¬ d - 16 < 16 := by omega
      simp only [dif_neg h, dif_neg h', dif_neg h2, show 32 + (d - 16 - 16) = d by omega]

/-- The factors of a column: its cosine, minus its sine, its sine. -/
def facC (co : Fin 16 → EReal) (d : Fin 128) : EReal :=
  if h : d.val < 16 then co ⟨d.val, h⟩ else if h' : d.val < 32 then co ⟨d.val - 16, by omega⟩ else 1
def facA (si : Fin 16 → EReal) (d : Fin 128) : EReal :=
  if h : d.val < 16 then -si ⟨d.val, h⟩ else 0
def facB (si : Fin 16 → EReal) (d : Fin 128) : EReal :=
  if h : d.val < 16 then 0 else if h' : d.val < 32 then si ⟨d.val - 16, by omega⟩ else 0

theorem turn_eq_rope (y : Fin 128 → EReal) (co si : Fin 16 → EReal) (d : Fin 128) :
    turn y (facC co d) (facA si d) (facB si d) d = rope y co si d := by
  have hd := d.isLt
  unfold turn rope facC facA facB
  by_cases h : d.val < 16
  · simp only [dif_pos h, mul_zero, add_zero, mul_neg, sub_eq_add_neg]
    rw [show (⟨(d.val + 16) % 128, Nat.mod_lt _ (by decide)⟩ : Fin 128) = ⟨d.val + 16, by omega⟩ from Fin.ext (by dsimp only; omega)]
  · by_cases h' : d.val < 32
    · simp only [dif_neg h, dif_pos h', mul_zero, add_zero]
      rw [show (⟨(d.val + 112) % 128, Nat.mod_lt _ (by decide)⟩ : Fin 128) = ⟨d.val - 16, by omega⟩ from Fin.ext (by dsimp only; omega)]
    · simp only [dif_neg h, dif_neg h', mul_zero, add_zero, mul_one]

theorem one_bits : Ideal.ofBits FTy.f32 0x3F800000#32 = 1 := by
  simp [Ideal.ofBits, Ideal.ieee]
  rw [← EReal.coe_mul]
  norm_num

/-- The sigmoid of a value. -/
def sigm (z : EReal) : EReal := Ideal.div 1 (1 + Ideal.exp (-z))

/-- A head of a row: its 128 entries from column `o` normalized under the gains `g`, rotated. -/
def rot (row : Fin 16384 → EReal) (o : ℕ) (ho : o + 128 ≤ 16384) (g : Fin 128 → EReal) (co si : Fin 16 → EReal) (d : Fin 128) : EReal :=
  rope (fun e => nrm (fun l => row ⟨o + l.val, by omega⟩) 0x43000000#32 (g e) e) co si d

theorem rot_of {x : Fin 128 → EReal} {row : Fin 16384 → EReal} {o : ℕ} {ho : o + 128 ≤ 16384} {g g' : Fin 128 → EReal} {co co' si si' : Fin 16 → EReal}
    {d d' : Fin 128} (hx : ∀ l : Fin 128, x l = row ⟨o + l.val, by omega⟩) (hg : ∀ e, g e = g' e) (hc : ∀ e, co e = co' e) (hs : ∀ e, si e = si' e) (hd : d = d') :
    rope (fun e => nrm x 0x43000000#32 (g e) e) co si d = rot row o ho g' co' si' d' := by
  rw [funext hx, funext hg, funext hc, funext hs, hd]
  rfl

/-- A memory query of a row: its 256 entries from column `o` normalized under the gain `g`. -/
def mem (row : Fin 16384 → EReal) (o : ℕ) (ho : o + 256 ≤ 16384) (g : EReal) (d : Fin 256) : EReal :=
  nrm (fun l : Fin 256 => row ⟨o + l.val, by omega⟩) 0x43800000#32 g d

theorem mem_of {x : Fin 256 → EReal} {row : Fin 16384 → EReal} {o : ℕ} {ho : o + 256 ≤ 16384} {g g' : EReal} {d d' : Fin 256}
    (hx : ∀ l : Fin 256, x l = row ⟨o + l.val, by omega⟩) (hg : g = g') (hd : d = d') : nrm x 0x43800000#32 g d = mem row o ho g' d' := by
  rw [funext hx, hg, hd]
  rfl

end Proj

end
-- ==== Proof.ProjBlock.lean ====
/-
  ONE BLOCK OF THE INPUT PROJECTION: the product, the normalized and rotated chunks, the gate, each read at an element.
-/
module

public import proofs.«01_k».proof.Proof.ProjRun
public import proofs.«01_k».proof.Proof.ProjMath

@[expose] public section

set_option maxRecDepth 16384

noncomputable section

namespace Proj

open Cert.Kernel3Ideal Cert.Kernel3Ideal.Gen Idealize.ShloMosaic Idealize.ShloMosaic.TcCoe

/-- The product of the row tile and the column tile. -/
theorem prod_apply (x0 : Vec Idealize.ShloMosaic.Ideal S512x2048 .bf16) (w : Vec Idealize.ShloMosaic.Ideal S2048x1024 .bf16) (r : Fin 512) (d : Fin 1024) :
    k0_pay2 x0 w (ix2 r d) = ∑ k : Fin 2048, (x0 (ix2 r k) : EReal) * w (ix2 k d) := by
  unfold_payloads
  pointwise

/-- The normalized chunk of 128 columns from column `o`. -/
def chunk (o : ℕ) (h : S512x1024.Slices ![0, o] S512x128) (h' : S1x1024.Slices ![0, o] S1x128)
    (v5 : FVec Idealize.ShloMosaic.Ideal S512x1024 .f32) (g : FVec Idealize.ShloMosaic.Ideal S1x1024 .f32) : FVec Idealize.ShloMosaic.Ideal S512x128 .f32 :=
  mulf (mulf (extractStridedSlice S512x128 ![0, o] v5 h) (broadcastTo S512x128 (rsqrt (addf (divf (shapeCast S512x1
      (multiReduction .add [1] S512 (mulf (extractStridedSlice S512x128 ![0, o] v5 h) (extractStridedSlice S512x128 ![0, o] v5 h)) 0x00000000#32 reduces_S512x128_S512 (.inl rfl) rfl)
      shapeCasts_S512_S512x1) (broadcast S512x1 (Scalar.ofBits .f32 0x43000000#32))) (broadcast S512x1 (Scalar.ofBits .f32 0x358637BD#32)))) broadcasts_S512x1_S512x128))
    (broadcastTo S512x128 (extractStridedSlice S1x128 ![0, o] g h') broadcasts_S1x128_S512x128)

theorem chunk_apply (o : ℕ) (ho : o + 128 ≤ 1024) (h : S512x1024.Slices ![0, o] S512x128) (h' : S1x1024.Slices ![0, o] S1x128)
    (v5 : FVec Idealize.ShloMosaic.Ideal S512x1024 .f32) (g : FVec Idealize.ShloMosaic.Ideal S1x1024 .f32) (r : Fin 512) (d : Fin 128) :
    chunk o h h' v5 g (ix2 r d)
      = nrm (fun l => v5 (ix2 r ⟨o + l.val, by omega⟩)) 0x43000000#32 (g (ix2 0 ⟨o + d.val, by omega⟩)) d := by
  unfold chunk
  pointwise
  rfl

/-- The normalized chunk of 256 columns from column `o`. -/
def chunkM (o : ℕ) (h : S512x1024.Slices ![0, o] S512x256) (h' : S1x1024.Slices ![0, o] S1x256)
    (v5 : FVec Idealize.ShloMosaic.Ideal S512x1024 .f32) (g : FVec Idealize.ShloMosaic.Ideal S1x1024 .f32) : FVec Idealize.ShloMosaic.Ideal S512x256 .f32 :=
  mulf (mulf (extractStridedSlice S512x256 ![0, o] v5 h) (broadcastTo S512x256 (rsqrt (addf (divf (shapeCast S512x1
      (multiReduction .add [1] S512 (mulf (extractStridedSlice S512x256 ![0, o] v5 h) (extractStridedSlice S512x256 ![0, o] v5 h)) 0x00000000#32 reduces_S512x256_S512 (.inl rfl) rfl)
      shapeCasts_S512_S512x1) (broadcast S512x1 (Scalar.ofBits .f32 0x43800000#32))) (broadcast S512x1 (Scalar.ofBits .f32 0x358637BD#32)))) broadcasts_S512x1_S512x256))
    (broadcastTo S512x256 (extractStridedSlice S1x256 ![0, o] g h') broadcasts_S1x256_S512x256)

theorem chunkM_apply (o : ℕ) (ho : o + 256 ≤ 1024) (h : S512x1024.Slices ![0, o] S512x256) (h' : S1x1024.Slices ![0, o] S1x256)
    (v5 : FVec Idealize.ShloMosaic.Ideal S512x1024 .f32) (g : FVec Idealize.ShloMosaic.Ideal S1x1024 .f32) (r : Fin 512) (d : Fin 256) :
    chunkM o h h' v5 g (ix2 r d)
      = nrm (fun l => v5 (ix2 r ⟨o + l.val, by omega⟩)) 0x43800000#32 (g (ix2 0 ⟨o + d.val, by omega⟩)) d := by
  unfold chunkM
  pointwise
  rfl

/-- A chunk rotated. -/
def turned (y ct a b : FVec Idealize.ShloMosaic.Ideal S512x128 .f32) : FVec Idealize.ShloMosaic.Ideal S512x128 .bf16 :=
  truncf .bf16 (addf (addf (mulf y ct) (mulf (dynamicRotate 1 112#32 none y rotates_S512x128_d1) a))
    (mulf (dynamicRotate 1 16#32 none y rotates_S512x128_d1) b)) bitsLt_bf16_f32

theorem turned_apply (y ct a b : FVec Idealize.ShloMosaic.Ideal S512x128 .f32) (r : Fin 512) (d : Fin 128) :
    turned y ct a b (ix2 r d) = turn (fun l => y (ix2 r l)) (ct (ix2 r d)) (a (ix2 r d)) (b (ix2 r d)) d := by
  have hd := d.isLt
  unfold turned turn
  pointwise
  refine congrArg₂ (fun a b : EReal => a + b) (congrArg₂ (fun a b : EReal => a + b) rfl ?_) ?_
  · refine congrArg (fun e => (y (ix2 r e) : EReal) * a (ix2 r d)) (Fin.ext ?_)
    dsimp only
    omega
  · refine congrArg (fun e => (y (ix2 r e) : EReal) * b (ix2 r d)) (Fin.ext ?_)
    dsimp only
    omega

/-- The value of a rotated column tile at an element. -/
def ropeAt (v5 : FVec Idealize.ShloMosaic.Ideal S512x1024 .f32) (g : FVec Idealize.ShloMosaic.Ideal S1x1024 .f32)
    (ct a b : FVec Idealize.ShloMosaic.Ideal S512x128 .f32) (r : Fin 512) (o : ℕ) (ho : o + 128 ≤ 1024) (d : Fin 128) : EReal :=
  turn (fun e => nrm (fun l => v5 (ix2 r ⟨o + l.val, by omega⟩)) 0x43000000#32 (g (ix2 0 ⟨o + e.val, by omega⟩)) e)
    (ct (ix2 r d)) (a (ix2 r d)) (b (ix2 r d)) d

theorem turned_chunk (o : ℕ) (ho : o + 128 ≤ 1024) (h : S512x1024.Slices ![0, o] S512x128) (h' : S1x1024.Slices ![0, o] S1x128)
    (v5 : FVec Idealize.ShloMosaic.Ideal S512x1024 .f32) (g : FVec Idealize.ShloMosaic.Ideal S1x1024 .f32)
    (ct a b : FVec Idealize.ShloMosaic.Ideal S512x128 .f32) (r : Fin 512) (d : Fin 128) :
    turned (chunk o h h' v5 g) ct a b (ix2 r d) = ropeAt v5 g ct a b r o ho d := by
  rw [turned_apply]
  unfold ropeAt
  simp only [chunk_apply o ho]

/-- A rotated column tile, at every element. -/
def ropeG (v5 : FVec Idealize.ShloMosaic.Ideal S512x1024 .f32) (g : FVec Idealize.ShloMosaic.Ideal S1x1024 .f32)
    (ct a b : FVec Idealize.ShloMosaic.Ideal S512x128 .f32) : Vec Idealize.ShloMosaic.Ideal S512x1024 .bf16 := fun y =>
  have h1 : (y 1).val < 1024 := (y 1).isLt
  ropeAt v5 g ct a b (y 0) (128 * ((y 1).val / 128)) (by omega) ⟨(y 1).val % 128, Nat.mod_lt _ (by decide)⟩

theorem ropeAt_congr (v5 : FVec Idealize.ShloMosaic.Ideal S512x1024 .f32) (g : FVec Idealize.ShloMosaic.Ideal S1x1024 .f32)
    (ct a b : FVec Idealize.ShloMosaic.Ideal S512x128 .f32) {r r' : Fin 512} {o o' : ℕ} {d d' : Fin 128} (hr : r = r') (hoo : o = o')
    (ho : o + 128 ≤ 1024) (ho' : o' + 128 ≤ 1024) (hd : d = d') : ropeAt v5 g ct a b r o ho d = ropeAt v5 g ct a b r' o' ho' d' := by
  subst hr hoo hd; rfl

theorem rope_piece (k : ℕ) (hk : k < 8) (h : S512x1024.Slices ![0, 128 * k] S512x128) (h' : S1x1024.Slices ![0, 128 * k] S1x128)
    (hb : ∀ a, (![0, 128 * k] : Fin 2 → ℕ) a + S512x128.size a ≤ S512x1024.size a)
    (v5 : FVec Idealize.ShloMosaic.Ideal S512x1024 .f32) (g : FVec Idealize.ShloMosaic.Ideal S1x1024 .f32)
    (ct a b : FVec Idealize.ShloMosaic.Ideal S512x128 .f32) (x : S512x128.Idx) :
    turned (chunk (128 * k) h h' v5 g) ct a b x
      = ropeG v5 g ct a b ((Rect.unit (s := S512x1024) ![0, 128 * k] S512x128.size hb).emb x) := by
  have h1 : (x 1).val < 128 := (x 1).isLt
  refine (congrArg _ (eq_ix2 (n0 := 512) (n1 := 128) x)).trans ?_
  refine (turned_chunk (128 * k) (by omega) h h' v5 g ct a b (x 0) (x 1)).trans ?_
  unfold ropeG
  have e0 : ((Rect.unit (s := S512x1024) ![0, 128 * k] S512x128.size hb).emb x) 0 = x 0 := Fin.ext (by
    rw [Rect.emb_apply]
    change 0 + 1 * _ = _
    omega)
  have e1 : (((Rect.unit (s := S512x1024) ![0, 128 * k] S512x128.size hb).emb x) 1).val = 128 * k + (x 1).val := by
    rw [Rect.emb_apply]
    change 128 * k + 1 * _ = _
    omega
  refine ropeAt_congr v5 g ct a b e0.symm (by rw [e1]; omega) _ _ (Fin.ext ?_)
  change (x 1).val = _
  dsimp only
  rw [e1]
  omega

theorem rope_block (x0 : Vec Idealize.ShloMosaic.Ideal S512x2048 .bf16) (w : Vec Idealize.ShloMosaic.Ideal S2048x1024 .bf16)
    (x2 : Vec Idealize.ShloMosaic.Ideal S1x1024 .f32) (x4 x5 x6 : Vec Idealize.ShloMosaic.Ideal S512x128 .f32) (y : S512x1024.Idx) :
    View.canon (ropeB x0 w x2 x4 x5 x6) y
      = ropeG (k0_pay2 x0 w) (k0_pay14 x2) (k0_pay11 x4) (k0_pay12 x5) (k0_pay13 x6) y := by
  refine View.canon_apply_of_pieces (ropeG (k0_pay2 x0 w) (k0_pay14 x2) (k0_pay11 x4) (k0_pay12 x5) (k0_pay13 x6)) (ropeB x0 w x2 x4 x5 x6) ?_ y (ropeB_cover x0 w x2 x4 x5 x6 y)
  unfold ropeB
  refine List.forall_mem_cons.mpr ⟨fun x => rope_piece 7 (by decide) slices_S512x1024_o0_896_S512x128 slices_S1x1024_o0_896_S1x128 inb_S512x1024_S512x128_0_896 _ _ _ _ _ x, ?_⟩
  refine List.forall_mem_cons.mpr ⟨fun x => rope_piece 6 (by decide) slices_S512x1024_o0_768_S512x128 slices_S1x1024_o0_768_S1x128 inb_S512x1024_S512x128_0_768 _ _ _ _ _ x, ?_⟩
  refine List.forall_mem_cons.mpr ⟨fun x => rope_piece 5 (by decide) slices_S512x1024_o0_640_S512x128 slices_S1x1024_o0_640_S1x128 inb_S512x1024_S512x128_0_640 _ _ _ _ _ x, ?_⟩
  refine List.forall_mem_cons.mpr ⟨fun x => rope_piece 4 (by decide) slices_S512x1024_o0_512_S512x128 slices_S1x1024_o0_512_S1x128 inb_S512x1024_S512x128_0_512 _ _ _ _ _ x, ?_⟩
  refine List.forall_mem_cons.mpr ⟨fun x => rope_piece 3 (by decide) slices_S512x1024_o0_384_S512x128 slices_S1x1024_o0_384_S1x128 inb_S512x1024_S512x128_0_384 _ _ _ _ _ x, ?_⟩
  refine List.forall_mem_cons.mpr ⟨fun x => rope_piece 2 (by decide) slices_S512x1024_o0_256_S512x128 slices_S1x1024_o0_256_S1x128 inb_S512x1024_S512x128_0_256 _ _ _ _ _ x, ?_⟩
  refine List.forall_mem_cons.mpr ⟨fun x => rope_piece 1 (by decide) slices_S512x1024_o0_128_S512x128 slices_S1x1024_o0_128_S1x128 inb_S512x1024_S512x128_0_128 _ _ _ _ _ x, ?_⟩
  exact List.forall_mem_cons.mpr ⟨fun x => rope_piece 0 (by decide) slices_S512x1024_o0_0_S512x128 slices_S1x1024_o0_0_S1x128 inb_S512x1024_S512x128_0_0 _ _ _ _ _ x, List.forall_mem_nil _⟩

/-- The value of a memory-query column tile at an element. -/
def memAt (v5 : FVec Idealize.ShloMosaic.Ideal S512x1024 .f32) (g : FVec Idealize.ShloMosaic.Ideal S1x1024 .f32)
    (r : Fin 512) (o : ℕ) (ho : o + 256 ≤ 1024) (d : Fin 256) : EReal :=
  nrm (fun l : Fin 256 => v5 (ix2 r ⟨o + l.val, by omega⟩)) 0x43800000#32 (g (ix2 0 ⟨o + d.val, by omega⟩)) d

theorem memAt_congr (v5 : FVec Idealize.ShloMosaic.Ideal S512x1024 .f32) (g : FVec Idealize.ShloMosaic.Ideal S1x1024 .f32)
    {r r' : Fin 512} {o o' : ℕ} {d d' : Fin 256} (hr : r = r') (hoo : o = o')
    (ho : o + 256 ≤ 1024) (ho' : o' + 256 ≤ 1024) (hd : d = d') : memAt v5 g r o ho d = memAt v5 g r' o' ho' d' := by
  subst hr hoo hd; rfl

/-- A memory-query column tile, at every element. -/
def memG (v5 : FVec Idealize.ShloMosaic.Ideal S512x1024 .f32) (g : FVec Idealize.ShloMosaic.Ideal S1x1024 .f32) :
    Vec Idealize.ShloMosaic.Ideal S512x1024 .bf16 := fun y =>
  have h1 : (y 1).val < 1024 := (y 1).isLt
  memAt v5 g (y 0) (256 * ((y 1).val / 256)) (by omega) ⟨(y 1).val % 256, Nat.mod_lt _ (by decide)⟩

theorem mem_piece (k : ℕ) (hk : k < 4) (h : S512x1024.Slices ![0, 256 * k] S512x256) (h' : S1x1024.Slices ![0, 256 * k] S1x256)
    (hb : ∀ a, (![0, 256 * k] : Fin 2 → ℕ) a + S512x256.size a ≤ S512x1024.size a)
    (v5 : FVec Idealize.ShloMosaic.Ideal S512x1024 .f32) (g : FVec Idealize.ShloMosaic.Ideal S1x1024 .f32) (x : S512x256.Idx) :
    truncf (F := Idealize.ShloMosaic.Ideal) .bf16 (chunkM (256 * k) h h' v5 g) bitsLt_bf16_f32 x
      = memG v5 g ((Rect.unit (s := S512x1024) ![0, 256 * k] S512x256.size hb).emb x) := by
  have h1 : (x 1).val < 256 := (x 1).isLt
  refine Eq.trans (b := chunkM (256 * k) h h' v5 g x) rfl ?_
  refine (congrArg _ (eq_ix2 (n0 := 512) (n1 := 256) x)).trans ?_
  refine (chunkM_apply (256 * k) (by omega) h h' v5 g (x 0) (x 1)).trans ?_
  unfold memG
  have e0 : ((Rect.unit (s := S512x1024) ![0, 256 * k] S512x256.size hb).emb x) 0 = x 0 := Fin.ext (by
    rw [Rect.emb_apply]
    change 0 + 1 * _ = _
    omega)
  have e1 : (((Rect.unit (s := S512x1024) ![0, 256 * k] S512x256.size hb).emb x) 1).val = 256 * k + (x 1).val := by
    rw [Rect.emb_apply]
    change 256 * k + 1 * _ = _
    omega
  refine memAt_congr v5 g (o := 256 * k) (d := x 1) e0.symm (by rw [e1]; omega) (by omega) _ (Fin.ext ?_)
  dsimp only
  rw [e1]
  omega

theorem mem_block (x0 : Vec Idealize.ShloMosaic.Ideal S512x2048 .bf16) (w : Vec Idealize.ShloMosaic.Ideal S2048x1024 .bf16)
    (x2 : Vec Idealize.ShloMosaic.Ideal S1x1024 .f32) (y : S512x1024.Idx) :
    View.canon (memB x0 w x2) y = memG (k0_pay2 x0 w) (k0_pay36 x2) y := by
  refine View.canon_apply_of_pieces (memG (k0_pay2 x0 w) (k0_pay36 x2)) (memB x0 w x2) ?_ y (memB_cover x0 w x2 y)
  unfold memB
  refine List.forall_mem_cons.mpr ⟨fun x => mem_piece 3 (by decide) slices_S512x1024_o0_768_S512x256 slices_S1x1024_o0_768_S1x256 inb_S512x1024_S512x256_0_768 _ _ x, ?_⟩
  refine List.forall_mem_cons.mpr ⟨fun x => mem_piece 2 (by decide) slices_S512x1024_o0_512_S512x256 slices_S1x1024_o0_512_S1x256 inb_S512x1024_S512x256_0_512 _ _ x, ?_⟩
  refine List.forall_mem_cons.mpr ⟨fun x => mem_piece 1 (by decide) slices_S512x1024_o0_256_S512x256 slices_S1x1024_o0_256_S1x256 inb_S512x1024_S512x256_0_256 _ _ x, ?_⟩
  exact List.forall_mem_cons.mpr ⟨fun x => mem_piece 0 (by decide) slices_S512x1024_o0_0_S512x256 slices_S1x1024_o0_0_S1x256 inb_S512x1024_S512x256_0_0 _ _ x, List.forall_mem_nil _⟩

theorem id11 (x : Vec Idealize.ShloMosaic.Ideal S512x128 .f32) (r : Fin 512) (d : Fin 128) : k0_pay11 x (ix2 r d) = x (ix2 r d) := by
  unfold_payloads; pointwise
theorem id12 (x : Vec Idealize.ShloMosaic.Ideal S512x128 .f32) (r : Fin 512) (d : Fin 128) : k0_pay12 x (ix2 r d) = x (ix2 r d) := by
  unfold_payloads; pointwise
theorem id13 (x : Vec Idealize.ShloMosaic.Ideal S512x128 .f32) (r : Fin 512) (d : Fin 128) : k0_pay13 x (ix2 r d) = x (ix2 r d) := by
  unfold_payloads; pointwise
theorem id14 (x : Vec Idealize.ShloMosaic.Ideal S1x1024 .f32) (d : Fin 1024) : k0_pay14 x (ix2 0 d) = x (ix2 0 d) := by
  unfold_payloads; pointwise
theorem id36 (x : Vec Idealize.ShloMosaic.Ideal S1x1024 .f32) (d : Fin 1024) : k0_pay36 x (ix2 0 d) = x (ix2 0 d) := by
  unfold_payloads; pointwise

theorem gate_apply (x0 : Vec Idealize.ShloMosaic.Ideal S512x2048 .bf16) (w : Vec Idealize.ShloMosaic.Ideal S2048x1024 .bf16) (x3 : Vec Idealize.ShloMosaic.Ideal S1x1024 .f32)
    (r : Fin 512) (d : Fin 1024) :
    k0_pay9 x0 w x3 (ix2 r d) = sigm ((∑ k : Fin 2048, (x0 (ix2 r k) : EReal) * w (ix2 k d)) + x3 (ix2 0 d)) := by
  unfold_payloads
  pointwise
  unfold sigm
  rw [sub_eq_add_neg, zero_add]

theorem copy_apply (x0 : Vec Idealize.ShloMosaic.Ideal S512x2048 .bf16) (w : Vec Idealize.ShloMosaic.Ideal S2048x1024 .bf16) (r : Fin 512) (d : Fin 1024) :
    k0_pay10 x0 w (ix2 r d) = ∑ k : Fin 2048, (x0 (ix2 r k) : EReal) * w (ix2 k d) := by
  unfold_payloads
  pointwise

theorem held_apply (x : Vec Idealize.ShloMosaic.Ideal S2048x1024 .f32) (k : Fin 2048) (d : Fin 1024) : k0_pay1 x (ix2 k d) = x (ix2 k d) := by
  unfold_payloads
  pointwise

end Proj

end
-- ==== Proof.ProjRef.lean ====
/-
  THE REFERENCE'S INPUT PROJECTION, read at an element: the product, the normalized heads, their rotation, the gates.
-/
module

public import proofs.«01_k».proof.Proof.Gen.Reference3Ideal.Run
public import proofs.«01_k».proof.Proof.ProjMath

@[expose] public section

set_option maxRecDepth 16384

noncomputable section

namespace Proj.Ref

open Cert.Reference3Ideal Cert.Reference3Ideal.Gen Idealize.ShloMosaic Idealize.ShloMosaic.TcCoe Idealize.SL.Sem

/-- The product. -/
def prod (h : FVec Idealize.ShloMosaic.Ideal S16384x2048 .bf16) (w : FVec Idealize.ShloMosaic.Ideal S2048x16384 .f32) : FVec Idealize.ShloMosaic.Ideal S16384x16384 .f32 :=
  Host.dotGeneral dot_S16384x2048_S2048x16384_S16384x16384_1_0_0_1_n_n none (extf .f32 h bitsLt_bf16_f32) w

theorem prod_apply (h : FVec Idealize.ShloMosaic.Ideal S16384x2048 .bf16) (w : FVec Idealize.ShloMosaic.Ideal S2048x16384 .f32) (r d : Fin 16384) :
    prod h w (ix2 r d) = ∑ k : Fin 2048, (h (ix2 r k) : EReal) * w (ix2 k d) := by
  unfold prod
  pointwise

/-- A sum along the last axis, at any extents. -/
theorem reduce_sum {n0 n1 n2 : ℕ} (S : FVec Idealize.ShloMosaic.Ideal ⟨3, ![n0, n1, n2]⟩ FTy.f32) (init : FVec Idealize.ShloMosaic.Ideal S_ FTy.f32)
    (hr : Shape.ReducesTo ⟨3, ![n0, n1, n2]⟩ [2] ⟨2, ![n0, n1]⟩) (hu : 0 < S_.numel) (a : Fin n0) (b : Fin n1) :
    Host.reduceAdd S init hr hu (ix2 a b) = init (Shape.Idx.first hu) + ∑ x, S (ix3 a b x) := by
  pointwise

theorem zero_init : (constant S_ .f32 0x00000000#32 : FVec Idealize.ShloMosaic.Ideal S_ FTy.f32) (Shape.Idx.first h_S_) = 0 := by
  change Ideal.ofBits FTy.f32 0x00000000#32 = 0
  simp [Ideal.ofBits, Ideal.ieee]

/-! The 16 heads of 128 columns. -/

def split16 (o : ℕ) (hs : S16384x16384.Slices ![0, o] S16384x2048) (A : FVec Idealize.ShloMosaic.Ideal S16384x16384 .f32) : FVec Idealize.ShloMosaic.Ideal S16384x16x128 .f32 :=
  shapeCast _ (extractStridedSlice S16384x2048 ![0, o] A hs) shapeCasts_S16384x2048_S16384x16x128

theorem split16_apply (o : ℕ) (hs : S16384x16384.Slices ![0, o] S16384x2048) (ho : o + 2048 ≤ 16384) (A : FVec Idealize.ShloMosaic.Ideal S16384x16384 .f32)
    (r : Fin 16384) (h : Fin 16) (d : Fin 128) : split16 o hs A (ix3 r h d) = A (ix2 r ⟨o + (h.val * 128 + d.val), by omega⟩) := by
  unfold split16
  pointwise

def nrm16T (P : FVec Idealize.ShloMosaic.Ideal S16384x16x128 .f32) (T : FVec Idealize.ShloMosaic.Ideal S16384x16 .f32) (g : FVec Idealize.ShloMosaic.Ideal S128 .f32) : FVec Idealize.ShloMosaic.Ideal S16384x16x128 .f32 :=
  mulf (mulf P (broadcastInDim S16384x16x128 ![0, 1, 2] bcast_S16384x16x1_S16384x16x128_0_1_2 (Host.rsqrt (addf (Host.divf (broadcastInDim S16384x16x1 ![0, 1] bcast_S16384x16_S16384x16x1_0_1 T) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 g))

def nrm16 (P : FVec Idealize.ShloMosaic.Ideal S16384x16x128 .f32) (g : FVec Idealize.ShloMosaic.Ideal S128 .f32) : FVec Idealize.ShloMosaic.Ideal S16384x16x128 .f32 :=
  nrm16T P (Host.reduceAdd (mulf P P) (constant S_ .f32 0x00000000#32) reducesTo_S16384x16x128_S16384x16_d2 h_S_) g

theorem nrm16T_apply (P : FVec Idealize.ShloMosaic.Ideal S16384x16x128 .f32) (T : FVec Idealize.ShloMosaic.Ideal S16384x16 .f32) (g : FVec Idealize.ShloMosaic.Ideal S128 .f32)
    (r : Fin 16384) (h : Fin 16) (d : Fin 128) :
    nrm16T P T g (ix3 r h d) = (P (ix3 r h d) : EReal) * Ideal.rsqrt (Ideal.div (T (ix2 r h)) (Ideal.ofBits FTy.f32 0x43000000#32) + Ideal.ofBits FTy.f32 0x358637BD#32) * g (ix1 d) := by
  unfold nrm16T
  pointwise

theorem nrm16_apply (P : FVec Idealize.ShloMosaic.Ideal S16384x16x128 .f32) (g : FVec Idealize.ShloMosaic.Ideal S128 .f32)
    (r : Fin 16384) (h : Fin 16) (d : Fin 128) :
    nrm16 P g (ix3 r h d) = nrm (fun l => P (ix3 r h l)) 0x43000000#32 (g (ix1 d)) d := by
  unfold nrm16 nrm
  rw [nrm16T_apply, reduce_sum (mulf P P), zero_init, zero_add]
  rfl

def scale16 (Y : FVec Idealize.ShloMosaic.Ideal S16384x16x128 .f32) : FVec Idealize.ShloMosaic.Ideal S16384x16x128 .f32 :=
  mulf Y (broadcastInDim S16384x16x128 ![] bcast_S_S16384x16x128 (constant S_ .f32 0x3DB504F3#32))

theorem scale16_apply (Y : FVec Idealize.ShloMosaic.Ideal S16384x16x128 .f32) (r : Fin 16384) (h : Fin 16) (d : Fin 128) :
    scale16 Y (ix3 r h d) = (Y (ix3 r h d) : EReal) * Ideal.ofBits FTy.f32 0x3DB504F3#32 := by
  unfold scale16
  pointwise

def rope16 (Y : FVec Idealize.ShloMosaic.Ideal S16384x16x128 .f32) (co si : FVec Idealize.ShloMosaic.Ideal S16384x16 .f32) : FVec Idealize.ShloMosaic.Ideal S16384x2048 .f32 :=
  shapeCast _ (concatenate S16384x16x128 2 [
    ⟨S16384x16x16, subf (mulf (extractStridedSlice S16384x16x16 ![0, 0, 0] Y slices_S16384x16x128_S16384x16x16_0_0_0) (broadcastInDim S16384x16x16 ![0, 1, 2] bcast_S16384x1x16_S16384x16x16_0_1_2 (broadcastInDim S16384x1x16 ![0, 2] bcast_S16384x16_S16384x1x16_0_2 co)))
      (mulf (extractStridedSlice S16384x16x16 ![0, 0, 16] Y slices_S16384x16x128_S16384x16x16_0_0_16) (broadcastInDim S16384x16x16 ![0, 1, 2] bcast_S16384x1x16_S16384x16x16_0_1_2 (broadcastInDim S16384x1x16 ![0, 2] bcast_S16384x16_S16384x1x16_0_2 si)))⟩,
    ⟨S16384x16x16, addf (mulf (extractStridedSlice S16384x16x16 ![0, 0, 16] Y slices_S16384x16x128_S16384x16x16_0_0_16) (broadcastInDim S16384x16x16 ![0, 1, 2] bcast_S16384x1x16_S16384x16x16_0_1_2 (broadcastInDim S16384x1x16 ![0, 2] bcast_S16384x16_S16384x1x16_0_2 co)))
      (mulf (extractStridedSlice S16384x16x16 ![0, 0, 0] Y slices_S16384x16x128_S16384x16x16_0_0_0) (broadcastInDim S16384x16x16 ![0, 1, 2] bcast_S16384x1x16_S16384x16x16_0_1_2 (broadcastInDim S16384x1x16 ![0, 2] bcast_S16384x16_S16384x1x16_0_2 si)))⟩,
    ⟨S16384x16x96, extractStridedSlice S16384x16x96 ![0, 0, 32] Y slices_S16384x16x128_S16384x16x96_0_0_32⟩]
    concatenates_S16384x16x16_S16384x16x16_S16384x16x96_S16384x16x128_d2) shapeCasts_S16384x16x128_S16384x2048

theorem rope16_apply (Y : FVec Idealize.ShloMosaic.Ideal S16384x16x128 .f32) (co si : FVec Idealize.ShloMosaic.Ideal S16384x16 .f32) (r : Fin 16384) (j : Fin 2048) :
    rope16 Y co si (ix2 r j) = rope (fun l => Y (ix3 r ⟨j.val / 128, by omega⟩ l)) (fun e => co (ix2 r e)) (fun e => si (ix2 r e)) ⟨j.val % 128, by omega⟩ := by
  unfold rope16
  pointwise
  exact rope_read (fun l => Y (ix3 r ⟨j.val / 128, by omega⟩ l)) (fun e => co (ix2 r e)) (fun e => si (ix2 r e)) (j.val % 128) (by omega)

/-! The 8 heads of 128 columns. -/

def split8 (o : ℕ) (hs : S16384x16384.Slices ![0, o] S16384x1024) (A : FVec Idealize.ShloMosaic.Ideal S16384x16384 .f32) : FVec Idealize.ShloMosaic.Ideal S16384x8x128 .f32 :=
  shapeCast _ (extractStridedSlice S16384x1024 ![0, o] A hs) shapeCasts_S16384x1024_S16384x8x128

theorem split8_apply (o : ℕ) (hs : S16384x16384.Slices ![0, o] S16384x1024) (ho : o + 1024 ≤ 16384) (A : FVec Idealize.ShloMosaic.Ideal S16384x16384 .f32)
    (r : Fin 16384) (h : Fin 8) (d : Fin 128) : split8 o hs A (ix3 r h d) = A (ix2 r ⟨o + (h.val * 128 + d.val), by omega⟩) := by
  unfold split8
  pointwise

def nrm8T (P : FVec Idealize.ShloMosaic.Ideal S16384x8x128 .f32) (T : FVec Idealize.ShloMosaic.Ideal S16384x8 .f32) (g : FVec Idealize.ShloMosaic.Ideal S128 .f32) : FVec Idealize.ShloMosaic.Ideal S16384x8x128 .f32 :=
  mulf (mulf P (broadcastInDim S16384x8x128 ![0, 1, 2] bcast_S16384x8x1_S16384x8x128_0_1_2 (Host.rsqrt (addf (Host.divf (broadcastInDim S16384x8x1 ![0, 1] bcast_S16384x8_S16384x8x1_0_1 T) (broadcastInDim S16384x8x1 ![] bcast_S_S16384x8x1 (constant S_ .f32 0x43000000#32))) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 g))

def nrm8 (P : FVec Idealize.ShloMosaic.Ideal S16384x8x128 .f32) (g : FVec Idealize.ShloMosaic.Ideal S128 .f32) : FVec Idealize.ShloMosaic.Ideal S16384x8x128 .f32 :=
  nrm8T P (Host.reduceAdd (mulf P P) (constant S_ .f32 0x00000000#32) reducesTo_S16384x8x128_S16384x8_d2 h_S_) g

theorem nrm8T_apply (P : FVec Idealize.ShloMosaic.Ideal S16384x8x128 .f32) (T : FVec Idealize.ShloMosaic.Ideal S16384x8 .f32) (g : FVec Idealize.ShloMosaic.Ideal S128 .f32)
    (r : Fin 16384) (h : Fin 8) (d : Fin 128) :
    nrm8T P T g (ix3 r h d) = (P (ix3 r h d) : EReal) * Ideal.rsqrt (Ideal.div (T (ix2 r h)) (Ideal.ofBits FTy.f32 0x43000000#32) + Ideal.ofBits FTy.f32 0x358637BD#32) * g (ix1 d) := by
  unfold nrm8T
  pointwise

theorem nrm8_apply (P : FVec Idealize.ShloMosaic.Ideal S16384x8x128 .f32) (g : FVec Idealize.ShloMosaic.Ideal S128 .f32)
    (r : Fin 16384) (h : Fin 8) (d : Fin 128) :
    nrm8 P g (ix3 r h d) = nrm (fun l => P (ix3 r h l)) 0x43000000#32 (g (ix1 d)) d := by
  unfold nrm8 nrm
  rw [nrm8T_apply, reduce_sum (mulf P P), zero_init, zero_add]
  rfl

def scale8 (Y : FVec Idealize.ShloMosaic.Ideal S16384x8x128 .f32) : FVec Idealize.ShloMosaic.Ideal S16384x8x128 .f32 :=
  mulf Y (broadcastInDim S16384x8x128 ![] bcast_S_S16384x8x128 (constant S_ .f32 0x3DB504F3#32))

theorem scale8_apply (Y : FVec Idealize.ShloMosaic.Ideal S16384x8x128 .f32) (r : Fin 16384) (h : Fin 8) (d : Fin 128) :
    scale8 Y (ix3 r h d) = (Y (ix3 r h d) : EReal) * Ideal.ofBits FTy.f32 0x3DB504F3#32 := by
  unfold scale8
  pointwise

def rope8 (Y : FVec Idealize.ShloMosaic.Ideal S16384x8x128 .f32) (co si : FVec Idealize.ShloMosaic.Ideal S16384x16 .f32) : FVec Idealize.ShloMosaic.Ideal S16384x1024 .f32 :=
  shapeCast _ (concatenate S16384x8x128 2 [
    ⟨S16384x8x16, subf (mulf (extractStridedSlice S16384x8x16 ![0, 0, 0] Y slices_S16384x8x128_S16384x8x16_0_0_0) (broadcastInDim S16384x8x16 ![0, 1, 2] bcast_S16384x1x16_S16384x8x16_0_1_2 (broadcastInDim S16384x1x16 ![0, 2] bcast_S16384x16_S16384x1x16_0_2 co)))
      (mulf (extractStridedSlice S16384x8x16 ![0, 0, 16] Y slices_S16384x8x128_S16384x8x16_0_0_16) (broadcastInDim S16384x8x16 ![0, 1, 2] bcast_S16384x1x16_S16384x8x16_0_1_2 (broadcastInDim S16384x1x16 ![0, 2] bcast_S16384x16_S16384x1x16_0_2 si)))⟩,
    ⟨S16384x8x16, addf (mulf (extractStridedSlice S16384x8x16 ![0, 0, 16] Y slices_S16384x8x128_S16384x8x16_0_0_16) (broadcastInDim S16384x8x16 ![0, 1, 2] bcast_S16384x1x16_S16384x8x16_0_1_2 (broadcastInDim S16384x1x16 ![0, 2] bcast_S16384x16_S16384x1x16_0_2 co)))
      (mulf (extractStridedSlice S16384x8x16 ![0, 0, 0] Y slices_S16384x8x128_S16384x8x16_0_0_0) (broadcastInDim S16384x8x16 ![0, 1, 2] bcast_S16384x1x16_S16384x8x16_0_1_2 (broadcastInDim S16384x1x16 ![0, 2] bcast_S16384x16_S16384x1x16_0_2 si)))⟩,
    ⟨S16384x8x96, extractStridedSlice S16384x8x96 ![0, 0, 32] Y slices_S16384x8x128_S16384x8x96_0_0_32⟩]
    concatenates_S16384x8x16_S16384x8x16_S16384x8x96_S16384x8x128_d2) shapeCasts_S16384x8x128_S16384x1024

theorem rope8_apply (Y : FVec Idealize.ShloMosaic.Ideal S16384x8x128 .f32) (co si : FVec Idealize.ShloMosaic.Ideal S16384x16 .f32) (r : Fin 16384) (j : Fin 1024) :
    rope8 Y co si (ix2 r j) = rope (fun l => Y (ix3 r ⟨j.val / 128, by omega⟩ l)) (fun e => co (ix2 r e)) (fun e => si (ix2 r e)) ⟨j.val % 128, by omega⟩ := by
  unfold rope8
  pointwise
  exact rope_read (fun l => Y (ix3 r ⟨j.val / 128, by omega⟩ l)) (fun e => co (ix2 r e)) (fun e => si (ix2 r e)) (j.val % 128) (by omega)

/-! The 4 heads of 256 columns. -/

def split4 (o : ℕ) (hs : S16384x16384.Slices ![0, o] S16384x1024) (A : FVec Idealize.ShloMosaic.Ideal S16384x16384 .f32) : FVec Idealize.ShloMosaic.Ideal S16384x4x256 .f32 :=
  shapeCast _ (extractStridedSlice S16384x1024 ![0, o] A hs) shapeCasts_S16384x1024_S16384x4x256

theorem split4_apply (o : ℕ) (hs : S16384x16384.Slices ![0, o] S16384x1024) (ho : o + 1024 ≤ 16384) (A : FVec Idealize.ShloMosaic.Ideal S16384x16384 .f32)
    (r : Fin 16384) (h : Fin 4) (d : Fin 256) : split4 o hs A (ix3 r h d) = A (ix2 r ⟨o + (h.val * 256 + d.val), by omega⟩) := by
  unfold split4
  pointwise

def nrm4T (P : FVec Idealize.ShloMosaic.Ideal S16384x4x256 .f32) (T : FVec Idealize.ShloMosaic.Ideal S16384x4 .f32) (g : FVec Idealize.ShloMosaic.Ideal S256 .f32) : FVec Idealize.ShloMosaic.Ideal S16384x4x256 .f32 :=
  mulf (mulf P (broadcastInDim S16384x4x256 ![0, 1, 2] bcast_S16384x4x1_S16384x4x256_0_1_2 (Host.rsqrt (addf (Host.divf (broadcastInDim S16384x4x1 ![0, 1] bcast_S16384x4_S16384x4x1_0_1 T) (broadcastInDim S16384x4x1 ![] bcast_S_S16384x4x1 (constant S_ .f32 0x43800000#32))) (broadcastInDim S16384x4x1 ![] bcast_S_S16384x4x1 (constant S_ .f32 0x358637BD#32)))))) (broadcastInDim S16384x4x256 ![0, 1, 2] bcast_S1x1x256_S16384x4x256_0_1_2 (broadcastInDim S1x1x256 ![2] bcast_S256_S1x1x256_2 g))

def nrm4 (P : FVec Idealize.ShloMosaic.Ideal S16384x4x256 .f32) (g : FVec Idealize.ShloMosaic.Ideal S256 .f32) : FVec Idealize.ShloMosaic.Ideal S16384x4x256 .f32 :=
  nrm4T P (Host.reduceAdd (mulf P P) (constant S_ .f32 0x00000000#32) reducesTo_S16384x4x256_S16384x4_d2 h_S_) g

theorem nrm4T_apply (P : FVec Idealize.ShloMosaic.Ideal S16384x4x256 .f32) (T : FVec Idealize.ShloMosaic.Ideal S16384x4 .f32) (g : FVec Idealize.ShloMosaic.Ideal S256 .f32)
    (r : Fin 16384) (h : Fin 4) (d : Fin 256) :
    nrm4T P T g (ix3 r h d) = (P (ix3 r h d) : EReal) * Ideal.rsqrt (Ideal.div (T (ix2 r h)) (Ideal.ofBits FTy.f32 0x43800000#32) + Ideal.ofBits FTy.f32 0x358637BD#32) * g (ix1 d) := by
  unfold nrm4T
  pointwise

theorem nrm4_apply (P : FVec Idealize.ShloMosaic.Ideal S16384x4x256 .f32) (g : FVec Idealize.ShloMosaic.Ideal S256 .f32)
    (r : Fin 16384) (h : Fin 4) (d : Fin 256) :
    nrm4 P g (ix3 r h d) = nrm (fun l => P (ix3 r h l)) 0x43800000#32 (g (ix1 d)) d := by
  unfold nrm4 nrm
  rw [nrm4T_apply, reduce_sum (mulf P P), zero_init, zero_add]
  rfl

def scale4 (Y : FVec Idealize.ShloMosaic.Ideal S16384x4x256 .f32) : FVec Idealize.ShloMosaic.Ideal S16384x4x256 .f32 :=
  mulf Y (broadcastInDim S16384x4x256 ![] bcast_S_S16384x4x256 (constant S_ .f32 0x3D800000#32))

theorem scale4_apply (Y : FVec Idealize.ShloMosaic.Ideal S16384x4x256 .f32) (r : Fin 16384) (h : Fin 4) (d : Fin 256) :
    scale4 Y (ix3 r h d) = (Y (ix3 r h d) : EReal) * Ideal.ofBits FTy.f32 0x3D800000#32 := by
  unfold scale4
  pointwise

/-! The whole. -/

/-- The eight groups of columns, side by side. -/
def cat (a b c : FVec Idealize.ShloMosaic.Ideal S16384x2048 .f32) (d e f g : FVec Idealize.ShloMosaic.Ideal S16384x1024 .f32)
    (z : FVec Idealize.ShloMosaic.Ideal S16384x6144 .f32) : FVec Idealize.ShloMosaic.Ideal S16384x16384 .f32 :=
  concatenate S16384x16384 1 [⟨S16384x2048, a⟩, ⟨S16384x2048, b⟩, ⟨S16384x2048, c⟩, ⟨S16384x1024, d⟩, ⟨S16384x1024, e⟩, ⟨S16384x1024, f⟩,
    ⟨S16384x1024, g⟩, ⟨S16384x6144, z⟩]
    concatenates_S16384x2048_S16384x2048_S16384x2048_S16384x1024_S16384x1024_S16384x1024_S16384x1024_S16384x6144_S16384x16384_d1

theorem cat_apply (a b c : FVec Idealize.ShloMosaic.Ideal S16384x2048 .f32) (d e f g : FVec Idealize.ShloMosaic.Ideal S16384x1024 .f32)
    (z : FVec Idealize.ShloMosaic.Ideal S16384x6144 .f32) (r j : Fin 16384) :
    cat a b c d e f g z (ix2 r j)
      = if h : j.val < 2048 then a (ix2 r ⟨j.val, h⟩)
        else if h : j.val - 2048 < 2048 then b (ix2 r ⟨j.val - 2048, h⟩)
        else if h : j.val - 2048 - 2048 < 2048 then c (ix2 r ⟨j.val - 2048 - 2048, h⟩)
        else if h : j.val - 2048 - 2048 - 2048 < 1024 then d (ix2 r ⟨j.val - 2048 - 2048 - 2048, h⟩)
        else if h : j.val - 2048 - 2048 - 2048 - 1024 < 1024 then e (ix2 r ⟨j.val - 2048 - 2048 - 2048 - 1024, h⟩)
        else if h : j.val - 2048 - 2048 - 2048 - 1024 - 1024 < 1024 then f (ix2 r ⟨j.val - 2048 - 2048 - 2048 - 1024 - 1024, h⟩)
        else if h : j.val - 2048 - 2048 - 2048 - 1024 - 1024 - 1024 < 1024 then g (ix2 r ⟨j.val - 2048 - 2048 - 2048 - 1024 - 1024 - 1024, h⟩)
        else z (ix2 r ⟨j.val - 2048 - 2048 - 2048 - 1024 - 1024 - 1024 - 1024, by omega⟩) := by
  unfold cat
  pointwise

def gates (A : FVec Idealize.ShloMosaic.Ideal S16384x16384 .f32) (b : FVec Idealize.ShloMosaic.Ideal S6144 .f32) : FVec Idealize.ShloMosaic.Ideal S16384x6144 .f32 :=
  Host.divf (broadcastInDim S16384x6144 ![] bcast_S_S16384x6144 (constant S_ .f32 0x3F800000#32)) (addf (broadcastInDim S16384x6144 ![] bcast_S_S16384x6144 (constant S_ .f32 0x3F800000#32)) (Host.exp (Host.negf (addf (extractStridedSlice S16384x6144 ![0, 10240] A slices_S16384x16384_S16384x6144_0_10240) (broadcastInDim S16384x6144 ![0, 1] bcast_S1x6144_S16384x6144_0_1 (broadcastInDim S1x6144 ![1] bcast_S6144_S1x6144_1 b))))))

theorem gates_apply (A : FVec Idealize.ShloMosaic.Ideal S16384x16384 .f32) (b : FVec Idealize.ShloMosaic.Ideal S6144 .f32) (r : Fin 16384) (j : Fin 6144) :
    gates A b (ix2 r j) = sigm ((A (ix2 r ⟨10240 + j.val, by omega⟩) : EReal) + b (ix1 j)) := by
  unfold gates
  pointwise
  rfl

def unsplit4 (Y : FVec Idealize.ShloMosaic.Ideal S16384x4x256 .f32) : FVec Idealize.ShloMosaic.Ideal S16384x1024 .f32 :=
  shapeCast _ Y shapeCasts_S16384x4x256_S16384x1024

theorem unsplit4_apply (Y : FVec Idealize.ShloMosaic.Ideal S16384x4x256 .f32) (r : Fin 16384) (j : Fin 1024) :
    unsplit4 Y (ix2 r j) = Y (ix3 r ⟨j.val / 256, by omega⟩ ⟨j.val % 256, by omega⟩) := by
  unfold unsplit4
  pointwise

/-- The reference's result over its product and the other arguments. -/
def out (A : FVec Idealize.ShloMosaic.Ideal S16384x16384 .f32) (b : FVec Idealize.ShloMosaic.Ideal S6144 .f32)
    (dq dk lq lk : FVec Idealize.ShloMosaic.Ideal S128 .f32) (mq : FVec Idealize.ShloMosaic.Ideal S256 .f32)
    (co si : FVec Idealize.ShloMosaic.Ideal S16384x16 .f32) : FVec Idealize.ShloMosaic.Ideal S16384x16384 .f32 :=
  cat (rope16 (scale16 (nrm16 (split16 0 slices_S16384x16384_S16384x2048_0_0 A) dq)) co si)
    (rope16 (nrm16 (split16 2048 slices_S16384x16384_S16384x2048_0_2048 A) dk) co si)
    (extractStridedSlice S16384x2048 ![0, 4096] A slices_S16384x16384_S16384x2048_0_4096)
    (rope8 (scale8 (nrm8 (split8 6144 slices_S16384x16384_S16384x1024_0_6144 A) lq)) co si)
    (rope8 (nrm8 (split8 7168 slices_S16384x16384_S16384x1024_0_7168 A) lk) co si)
    (extractStridedSlice S16384x1024 ![0, 8192] A slices_S16384x16384_S16384x1024_0_8192)
    (unsplit4 (scale4 (nrm4 (split4 9216 slices_S16384x16384_S16384x1024_0_9216 A) mq)))
    (gates A b)

/-- The reference's result over its arguments. -/
def ref (h : FVec Idealize.ShloMosaic.Ideal S16384x2048 .bf16) (w : FVec Idealize.ShloMosaic.Ideal S2048x16384 .f32) (b : FVec Idealize.ShloMosaic.Ideal S6144 .f32)
    (dq dk lq lk : FVec Idealize.ShloMosaic.Ideal S128 .f32) (mq : FVec Idealize.ShloMosaic.Ideal S256 .f32)
    (co si : FVec Idealize.ShloMosaic.Ideal S16384x16 .f32) : FVec Idealize.ShloMosaic.Ideal S16384x16384 .bf16 :=
  truncf .bf16 (out (prod h w) b dq dk lq lk mq co si) bitsLt_bf16_f32

/-- The reference leaves this, and its arguments as they were. -/
theorem ref_run (m : (ℓ : Loc nD τ sig) → Buf (Elt Idealize.ShloMosaic.Ideal) ℓ) (ρ : Dev nD → PrngReg) :
    θ_run (defs (F := Idealize.ShloMosaic.Ideal)) (onTc (τ := τ) main) ⟨m, fun _ => 0, ρ⟩ fun r => ∀ c : Dev nD,
      r.2.mem ((c.tc : Thread nD τ).loc main_v165)
        = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.Reference3Ideal.Value.run m ρ

end Proj.Ref

end
-- ==== Proof.ProjHost.lean ====
/-
  THE INPUT PROJECTION'S PREPARED ARRAYS: the gains, the biases and the rotation's factors as the launch finds them, read at an element.
-/
module

public import proofs.«01_k».proof.Proof.ProjSetup
public import proofs.«01_k».proof.Proof.ProjMath

@[expose] public section

set_option maxRecDepth 16384

noncomputable section

namespace Proj

open Cert.Kernel3Ideal Cert.Kernel3Ideal.Gen Idealize.ShloMosaic Idealize.ShloMosaic.TcCoe Idealize.SL.Sem Idealize.ShloMosaic.StableHlo

/-- A row of 128 gains repeated 16 times, times a factor. -/
def rep16 (g : FVec Idealize.ShloMosaic.Ideal S128 .f32) : FVec Idealize.ShloMosaic.Ideal S2048 .f32 :=
  shapeCast S2048 (broadcastInDim S16x128 ![0, 1] bcast_S1x128_S16x128_0_1 (shapeCast S1x128 g shapeCasts_S128_S1x128)) shapeCasts_S16x128_S2048
def rep8 (g : FVec Idealize.ShloMosaic.Ideal S128 .f32) : FVec Idealize.ShloMosaic.Ideal S1024 .f32 :=
  shapeCast S1024 (broadcastInDim S8x128 ![0, 1] bcast_S1x128_S8x128_0_1 (shapeCast S1x128 g shapeCasts_S128_S1x128)) shapeCasts_S8x128_S1024
def rep4 (g : FVec Idealize.ShloMosaic.Ideal S256 .f32) : FVec Idealize.ShloMosaic.Ideal S1024 .f32 :=
  shapeCast S1024 (broadcastInDim S4x256 ![0, 1] bcast_S1x256_S4x256_0_1 (shapeCast S1x256 g shapeCasts_S256_S1x256)) shapeCasts_S4x256_S1024

theorem rep16_apply (g : FVec Idealize.ShloMosaic.Ideal S128 .f32) (j : Fin 2048) : rep16 g (ix1 j) = g (ix1 ⟨j.val % 128, by omega⟩) := by
  unfold rep16; pointwise
theorem rep8_apply (g : FVec Idealize.ShloMosaic.Ideal S128 .f32) (j : Fin 1024) : rep8 g (ix1 j) = g (ix1 ⟨j.val % 128, by omega⟩) := by
  unfold rep8; pointwise
theorem rep4_apply (g : FVec Idealize.ShloMosaic.Ideal S256 .f32) (j : Fin 1024) : rep4 g (ix1 j) = g (ix1 ⟨j.val % 256, by omega⟩) := by
  unfold rep4; pointwise

/-- The row of gains. -/
def gains (dq dk lq lk : FVec Idealize.ShloMosaic.Ideal S128 .f32) (mq : FVec Idealize.ShloMosaic.Ideal S256 .f32) : FVec Idealize.ShloMosaic.Ideal S1x16384 .f32 :=
  shapeCast S1x16384 (concatenate S16384 0 [
    ⟨S2048, mulf (rep16 dq) (broadcastInDim S2048 ![] bcast_S_S2048 (constant S_ .f32 0x3DB504F3#32))⟩,
    ⟨S2048, rep16 dk⟩,
    ⟨S2048, broadcastInDim S2048 ![] bcast_S_S2048 (constant (F := Idealize.ShloMosaic.Ideal) S_ .f32 0x3F800000#32)⟩,
    ⟨S1024, mulf (rep8 lq) (broadcastInDim S1024 ![] bcast_S_S1024 (constant S_ .f32 0x3DB504F3#32))⟩,
    ⟨S1024, rep8 lk⟩,
    ⟨S1024, broadcastInDim S1024 ![] bcast_S_S1024 (constant (F := Idealize.ShloMosaic.Ideal) S_ .f32 0x3F800000#32)⟩,
    ⟨S1024, mulf (rep4 mq) (broadcastInDim S1024 ![] bcast_S_S1024 (constant S_ .f32 0x3D800000#32))⟩,
    ⟨S6144, broadcastInDim S6144 ![] bcast_S_S6144 (constant (F := Idealize.ShloMosaic.Ideal) S_ .f32 0x3F800000#32)⟩]
    concatenates_S2048_S2048_S2048_S1024_S1024_S1024_S1024_S6144_S16384_d0) shapeCasts_S16384_S1x16384

/-- The row of biases: nothing before the gates. -/
def biases (b : FVec Idealize.ShloMosaic.Ideal S6144 .f32) : FVec Idealize.ShloMosaic.Ideal S1x16384 .f32 :=
  shapeCast S1x16384 (concatenate S16384 0 [
    ⟨S10240, broadcastInDim S10240 ![] bcast_S_S10240 (constant (F := Idealize.ShloMosaic.Ideal) S_ .f32 0x00000000#32)⟩, ⟨S6144, b⟩]
    concatenates_S10240_S6144_S16384_d0) shapeCasts_S16384_S1x16384

theorem biases_apply (b : FVec Idealize.ShloMosaic.Ideal S6144 .f32) (j : Fin 16384) (hj : 10240 ≤ j.val) :
    biases b (ix2 0 j) = b (ix1 ⟨j.val - 10240, by omega⟩) := by
  have hn : ¬ j.val < 10240 := by omega
  unfold biases
  pointwise
  simp only [hn, dif_neg, not_false_eq_true, if_false, if_neg, reduceDIte]

theorem gains_dq (dq dk lq lk : FVec Idealize.ShloMosaic.Ideal S128 .f32) (mq : FVec Idealize.ShloMosaic.Ideal S256 .f32) (j : Fin 16384) (hj : j.val < 2048) :
    gains dq dk lq lk mq (ix2 0 j) = (dq (ix1 ⟨j.val % 128, by omega⟩) : EReal) * Ideal.ofBits FTy.f32 0x3DB504F3#32 := by
  have p : j.val < 2048 := by omega
  unfold gains
  pointwise
  rw [dif_pos p, rep16_apply]

theorem gains_dk (dq dk lq lk : FVec Idealize.ShloMosaic.Ideal S128 .f32) (mq : FVec Idealize.ShloMosaic.Ideal S256 .f32) (j : Fin 16384) (h0 : 2048 ≤ j.val) (h1 : j.val < 4096) :
    gains dq dk lq lk mq (ix2 0 j) = dk (ix1 ⟨j.val % 128, by omega⟩) := by
  have n0 : ¬ j.val < 2048 := by omega
  have p : j.val - 2048 < 2048 := by omega
  unfold gains
  pointwise
  rw [dif_neg n0, dif_pos p, rep16_apply]
  simp only [show (j.val - 2048) % 128 = j.val % 128 by omega]

theorem gains_lq (dq dk lq lk : FVec Idealize.ShloMosaic.Ideal S128 .f32) (mq : FVec Idealize.ShloMosaic.Ideal S256 .f32) (j : Fin 16384) (h0 : 6144 ≤ j.val) (h1 : j.val < 7168) :
    gains dq dk lq lk mq (ix2 0 j) = (lq (ix1 ⟨j.val % 128, by omega⟩) : EReal) * Ideal.ofBits FTy.f32 0x3DB504F3#32 := by
  have n0 : ¬ j.val < 2048 := by omega
  have n1 : ¬ j.val - 2048 < 2048 := by omega
  have n2 : ¬ j.val - 2048 - 2048 < 2048 := by omega
  have p : j.val - 2048 - 2048 - 2048 < 1024 := by omega
  unfold gains
  pointwise
  rw [dif_neg n0, dif_neg n1, dif_neg n2, dif_pos p, rep8_apply]
  simp only [show (j.val - 2048 - 2048 - 2048) % 128 = j.val % 128 by omega]

theorem gains_lk (dq dk lq lk : FVec Idealize.ShloMosaic.Ideal S128 .f32) (mq : FVec Idealize.ShloMosaic.Ideal S256 .f32) (j : Fin 16384) (h0 : 7168 ≤ j.val) (h1 : j.val < 8192) :
    gains dq dk lq lk mq (ix2 0 j) = lk (ix1 ⟨j.val % 128, by omega⟩) := by
  have n0 : ¬ j.val < 2048 := by omega
  have n1 : ¬ j.val - 2048 < 2048 := by omega
  have n2 : ¬ j.val - 2048 - 2048 < 2048 := by omega
  have n3 : ¬ j.val - 2048 - 2048 - 2048 < 1024 := by omega
  have p : j.val - 2048 - 2048 - 2048 - 1024 < 1024 := by omega
  unfold gains
  pointwise
  rw [dif_neg n0, dif_neg n1, dif_neg n2, dif_neg n3, dif_pos p, rep8_apply]
  simp only [show (j.val - 2048 - 2048 - 2048 - 1024) % 128 = j.val % 128 by omega]

theorem gains_mq (dq dk lq lk : FVec Idealize.ShloMosaic.Ideal S128 .f32) (mq : FVec Idealize.ShloMosaic.Ideal S256 .f32) (j : Fin 16384) (h0 : 9216 ≤ j.val) (h1 : j.val < 10240) :
    gains dq dk lq lk mq (ix2 0 j) = (mq (ix1 ⟨j.val % 256, by omega⟩) : EReal) * Ideal.ofBits FTy.f32 0x3D800000#32 := by
  have n0 : ¬ j.val < 2048 := by omega
  have n1 : ¬ j.val - 2048 < 2048 := by omega
  have n2 : ¬ j.val - 2048 - 2048 < 2048 := by omega
  have n3 : ¬ j.val - 2048 - 2048 - 2048 < 1024 := by omega
  have n4 : ¬ j.val - 2048 - 2048 - 2048 - 1024 < 1024 := by omega
  have n5 : ¬ j.val - 2048 - 2048 - 2048 - 1024 - 1024 < 1024 := by omega
  have p : j.val - 2048 - 2048 - 2048 - 1024 - 1024 - 1024 < 1024 := by omega
  unfold gains
  pointwise
  rw [dif_neg n0, dif_neg n1, dif_neg n2, dif_neg n3, dif_neg n4, dif_neg n5, dif_pos p, rep4_apply]
  simp only [show (j.val - 2048 - 2048 - 2048 - 1024 - 1024 - 1024) % 256 = j.val % 256 by omega]

variable (m : (ℓ : Loc nD τ sig) → Buf (Elt Idealize.ShloMosaic.Ideal) ℓ)

theorem V_gains (c : Dev nD) : V m c main_v25 = gains (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold V hostOps0
  after_results_simp <;> rfl

theorem V_biases (c : Dev nD) : V m c main_v28 = biases (m ((c.tc : Thread nD τ).loc main_arg2)) := by
  unfold V hostOps0
  after_results_simp <;> rfl

/-- The three rows of factors of the rotation. -/
def cosT (x : FVec Idealize.ShloMosaic.Ideal S16384x16 .f32) : FVec Idealize.ShloMosaic.Ideal S16384x128 .f32 :=
  concatenate S16384x128 1 [⟨S16384x16, x⟩, ⟨S16384x16, x⟩,
    ⟨S16384x96, broadcastInDim S16384x96 ![] bcast_S_S16384x96 (constant (F := Idealize.ShloMosaic.Ideal) S_ .f32 0x3F800000#32)⟩]
    concatenates_S16384x16_S16384x16_S16384x96_S16384x128_d1
def saT (x : FVec Idealize.ShloMosaic.Ideal S16384x16 .f32) : FVec Idealize.ShloMosaic.Ideal S16384x128 .f32 :=
  concatenate S16384x128 1 [⟨S16384x16, Host.negf x⟩,
    ⟨S16384x112, broadcastInDim S16384x112 ![] bcast_S_S16384x112 (constant (F := Idealize.ShloMosaic.Ideal) S_ .f32 0x00000000#32)⟩]
    concatenates_S16384x16_S16384x112_S16384x128_d1
def sbT (x : FVec Idealize.ShloMosaic.Ideal S16384x16 .f32) : FVec Idealize.ShloMosaic.Ideal S16384x128 .f32 :=
  concatenate S16384x128 1 [
    ⟨S16384x16, broadcastInDim S16384x16 ![] bcast_S_S16384x16 (constant (F := Idealize.ShloMosaic.Ideal) S_ .f32 0x00000000#32)⟩, ⟨S16384x16, x⟩,
    ⟨S16384x96, broadcastInDim S16384x96 ![] bcast_S_S16384x96 (constant (F := Idealize.ShloMosaic.Ideal) S_ .f32 0x00000000#32)⟩]
    concatenates_S16384x16_S16384x16_S16384x96_S16384x128_d1

theorem cosT_apply (x : FVec Idealize.ShloMosaic.Ideal S16384x16 .f32) (r : Fin 16384) (d : Fin 128) :
    cosT x (ix2 r d) = facC (fun e => x (ix2 r e)) d := by
  have e : d.val - 16 < 16 ↔ d.val < 32 := by omega
  unfold cosT facC
  pointwise
  simp only [e]
theorem saT_apply (x : FVec Idealize.ShloMosaic.Ideal S16384x16 .f32) (r : Fin 16384) (d : Fin 128) :
    saT x (ix2 r d) = facA (fun e => x (ix2 r e)) d := by
  unfold saT facA
  pointwise
theorem sbT_apply (x : FVec Idealize.ShloMosaic.Ideal S16384x16 .f32) (r : Fin 16384) (d : Fin 128) :
    sbT x (ix2 r d) = facB (fun e => x (ix2 r e)) d := by
  have e : d.val - 16 < 16 ↔ d.val < 32 := by omega
  unfold sbT facB
  pointwise
  simp only [e]

theorem V_cos (c : Dev nD) : V m c main_v30 = cosT (m ((c.tc : Thread nD τ).loc main_arg8)) := by
  unfold V hostOps0
  after_results_simp <;> rfl
theorem V_sa (c : Dev nD) : V m c main_v33 = saT (m ((c.tc : Thread nD τ).loc main_arg9)) := by
  unfold V hostOps0
  after_results_simp <;> rfl
theorem V_sb (c : Dev nD) : V m c main_v36 = sbT (m ((c.tc : Thread nD τ).loc main_arg9)) := by
  unfold V hostOps0
  after_results_simp <;> rfl

end Proj

end
-- ==== Proof.ProjOut.lean ====
/-
  THE REFERENCE'S INPUT PROJECTION BY COLUMN RANGE: which head, gate or copy a column of the result is, over the product's row and the row of gains.
-/
module

public import proofs.«01_k».proof.Proof.ProjRef
public import proofs.«01_k».proof.Proof.ProjHost

@[expose] public section

set_option maxRecDepth 16384

noncomputable section

namespace Proj

open Cert.Kernel3Ideal Cert.Kernel3Ideal.Gen Idealize.ShloMosaic Idealize.ShloMosaic.TcCoe

variable (A : FVec Idealize.ShloMosaic.Ideal S16384x16384 .f32) (b : FVec Idealize.ShloMosaic.Ideal S6144 .f32)
  (dq dk lq lk : FVec Idealize.ShloMosaic.Ideal S128 .f32) (mq : FVec Idealize.ShloMosaic.Ideal S256 .f32)
  (co si : FVec Idealize.ShloMosaic.Ideal S16384x16 .f32) (R C : Fin 16384)

theorem out_dq (h1 : C.val < 2048) :
    Ref.out A b dq dk lq lk mq co si (ix2 R C) = rot (fun j => A (ix2 R j)) (128 * (C.val / 128)) (by omega) (fun e => gains dq dk lq lk mq (ix2 0 ⟨128 * (C.val / 128) + e.val, by omega⟩))
      (fun e => co (ix2 R e)) (fun e => si (ix2 R e)) ⟨C.val % 128, Nat.mod_lt _ (by decide)⟩ := by
  have p : C.val < 2048 := by omega
  unfold Ref.out
  rw [Ref.cat_apply, dif_pos p, Ref.rope16_apply]
  simp only [Ref.scale16_apply, Ref.nrm16_apply, Ref.split16_apply 0 _ (by decide), ← nrm_mul]
  refine rot_of (fun l => congrArg (fun j => A (ix2 R j)) (Fin.ext (by dsimp only; omega))) (fun e => Eq.symm ?_) (fun e => rfl) (fun e => rfl) rfl
  refine (gains_dq dq dk lq lk mq ⟨128 * (C.val / 128) + e.val, by omega⟩ (by dsimp only; omega)).trans ?_
  simp only [show (128 * (C.val / 128) + e.val) % 128 = e.val by omega]

theorem out_dk (h0 : 2048 ≤ C.val) (h1 : C.val < 4096) :
    Ref.out A b dq dk lq lk mq co si (ix2 R C) = rot (fun j => A (ix2 R j)) (128 * (C.val / 128)) (by omega) (fun e => gains dq dk lq lk mq (ix2 0 ⟨128 * (C.val / 128) + e.val, by omega⟩))
      (fun e => co (ix2 R e)) (fun e => si (ix2 R e)) ⟨C.val % 128, Nat.mod_lt _ (by decide)⟩ := by
  have n0 : ¬ C.val < 2048 := by omega
  have p : C.val - 2048 < 2048 := by omega
  unfold Ref.out
  rw [Ref.cat_apply, dif_neg n0, dif_pos p, Ref.rope16_apply]
  simp only [Ref.nrm16_apply, Ref.split16_apply 2048 _ (by decide)]
  refine rot_of (fun l => congrArg (fun j => A (ix2 R j)) (Fin.ext (by dsimp only; omega))) (fun e => Eq.symm ?_) (fun e => rfl) (fun e => rfl) (Fin.ext (by dsimp only; omega))
  refine (gains_dk dq dk lq lk mq ⟨128 * (C.val / 128) + e.val, by omega⟩ (by dsimp only; omega) (by dsimp only; omega)).trans ?_
  simp only [show (128 * (C.val / 128) + e.val) % 128 = e.val by omega]

theorem out_lq (h0 : 6144 ≤ C.val) (h1 : C.val < 7168) :
    Ref.out A b dq dk lq lk mq co si (ix2 R C) = rot (fun j => A (ix2 R j)) (128 * (C.val / 128)) (by omega) (fun e => gains dq dk lq lk mq (ix2 0 ⟨128 * (C.val / 128) + e.val, by omega⟩))
      (fun e => co (ix2 R e)) (fun e => si (ix2 R e)) ⟨C.val % 128, Nat.mod_lt _ (by decide)⟩ := by
  have n0 : ¬ C.val < 2048 := by omega
  have n1 : ¬ C.val - 2048 < 2048 := by omega
  have n2 : ¬ C.val - 2048 - 2048 < 2048 := by omega
  have p : C.val - 2048 - 2048 - 2048 < 1024 := by omega
  unfold Ref.out
  rw [Ref.cat_apply, dif_neg n0, dif_neg n1, dif_neg n2, dif_pos p, Ref.rope8_apply]
  simp only [Ref.scale8_apply, Ref.nrm8_apply, Ref.split8_apply 6144 _ (by decide), ← nrm_mul]
  refine rot_of (fun l => congrArg (fun j => A (ix2 R j)) (Fin.ext (by dsimp only; omega))) (fun e => Eq.symm ?_) (fun e => rfl) (fun e => rfl) (Fin.ext (by dsimp only; omega))
  refine (gains_lq dq dk lq lk mq ⟨128 * (C.val / 128) + e.val, by omega⟩ (by dsimp only; omega) (by dsimp only; omega)).trans ?_
  simp only [show (128 * (C.val / 128) + e.val) % 128 = e.val by omega]

theorem out_lk (h0 : 7168 ≤ C.val) (h1 : C.val < 8192) :
    Ref.out A b dq dk lq lk mq co si (ix2 R C) = rot (fun j => A (ix2 R j)) (128 * (C.val / 128)) (by omega) (fun e => gains dq dk lq lk mq (ix2 0 ⟨128 * (C.val / 128) + e.val, by omega⟩))
      (fun e => co (ix2 R e)) (fun e => si (ix2 R e)) ⟨C.val % 128, Nat.mod_lt _ (by decide)⟩ := by
  have n0 : ¬ C.val < 2048 := by omega
  have n1 : ¬ C.val - 2048 < 2048 := by omega
  have n2 : ¬ C.val - 2048 - 2048 < 2048 := by omega
  have n3 : ¬ C.val - 2048 - 2048 - 2048 < 1024 := by omega
  have p : C.val - 2048 - 2048 - 2048 - 1024 < 1024 := by omega
  unfold Ref.out
  rw [Ref.cat_apply, dif_neg n0, dif_neg n1, dif_neg n2, dif_neg n3, dif_pos p, Ref.rope8_apply]
  simp only [Ref.nrm8_apply, Ref.split8_apply 7168 _ (by decide)]
  refine rot_of (fun l => congrArg (fun j => A (ix2 R j)) (Fin.ext (by dsimp only; omega))) (fun e => Eq.symm ?_) (fun e => rfl) (fun e => rfl) (Fin.ext (by dsimp only; omega))
  refine (gains_lk dq dk lq lk mq ⟨128 * (C.val / 128) + e.val, by omega⟩ (by dsimp only; omega) (by dsimp only; omega)).trans ?_
  simp only [show (128 * (C.val / 128) + e.val) % 128 = e.val by omega]

theorem out_dv (h0 : 4096 ≤ C.val) (h1 : C.val < 6144) : Ref.out A b dq dk lq lk mq co si (ix2 R C) = A (ix2 R C) := by
  have n0 : ¬ C.val < 2048 := by omega
  have n1 : ¬ C.val - 2048 < 2048 := by omega
  have p : C.val - 2048 - 2048 < 2048 := by omega
  unfold Ref.out
  rw [Ref.cat_apply, dif_neg n0, dif_neg n1, dif_pos p]
  pointwise
  exact congrArg (fun j => A (ix2 R j)) (Fin.ext (by dsimp only; omega))

theorem out_lv (h0 : 8192 ≤ C.val) (h1 : C.val < 9216) : Ref.out A b dq dk lq lk mq co si (ix2 R C) = A (ix2 R C) := by
  have n0 : ¬ C.val < 2048 := by omega
  have n1 : ¬ C.val - 2048 < 2048 := by omega
  have n2 : ¬ C.val - 2048 - 2048 < 2048 := by omega
  have n3 : ¬ C.val - 2048 - 2048 - 2048 < 1024 := by omega
  have n4 : ¬ C.val - 2048 - 2048 - 2048 - 1024 < 1024 := by omega
  have p : C.val - 2048 - 2048 - 2048 - 1024 - 1024 < 1024 := by omega
  unfold Ref.out
  rw [Ref.cat_apply, dif_neg n0, dif_neg n1, dif_neg n2, dif_neg n3, dif_neg n4, dif_pos p]
  pointwise
  exact congrArg (fun j => A (ix2 R j)) (Fin.ext (by dsimp only; omega))

theorem out_mq (h0 : 9216 ≤ C.val) (h1 : C.val < 10240) :
    Ref.out A b dq dk lq lk mq co si (ix2 R C) = mem (fun j => A (ix2 R j)) (256 * (C.val / 256)) (by omega) (gains dq dk lq lk mq (ix2 0 C)) ⟨C.val % 256, Nat.mod_lt _ (by decide)⟩ := by
  have n0 : ¬ C.val < 2048 := by omega
  have n1 : ¬ C.val - 2048 < 2048 := by omega
  have n2 : ¬ C.val - 2048 - 2048 < 2048 := by omega
  have n3 : ¬ C.val - 2048 - 2048 - 2048 < 1024 := by omega
  have n4 : ¬ C.val - 2048 - 2048 - 2048 - 1024 < 1024 := by omega
  have n5 : ¬ C.val - 2048 - 2048 - 2048 - 1024 - 1024 < 1024 := by omega
  have p : C.val - 2048 - 2048 - 2048 - 1024 - 1024 - 1024 < 1024 := by omega
  unfold Ref.out
  rw [Ref.cat_apply, dif_neg n0, dif_neg n1, dif_neg n2, dif_neg n3, dif_neg n4, dif_neg n5, dif_pos p, Ref.unsplit4_apply]
  simp only [Ref.scale4_apply, Ref.nrm4_apply, Ref.split4_apply 9216 _ (by decide), ← nrm_mul]
  refine mem_of (fun l => congrArg (fun j => A (ix2 R j)) (Fin.ext (by dsimp only; omega))) (Eq.symm ?_) (Fin.ext (by dsimp only; omega))
  refine (gains_mq dq dk lq lk mq C h0 h1).trans ?_
  simp only [show (C.val - 2048 - 2048 - 2048 - 1024 - 1024 - 1024) % 256 = C.val % 256 by omega]

theorem out_gate (h0 : 10240 ≤ C.val) : Ref.out A b dq dk lq lk mq co si (ix2 R C) = sigm ((A (ix2 R C) : EReal) + biases b (ix2 0 C)) := by
  have n0 : ¬ C.val < 2048 := by omega
  have n1 : ¬ C.val - 2048 < 2048 := by omega
  have n2 : ¬ C.val - 2048 - 2048 < 2048 := by omega
  have n3 : ¬ C.val - 2048 - 2048 - 2048 < 1024 := by omega
  have n4 : ¬ C.val - 2048 - 2048 - 2048 - 1024 < 1024 := by omega
  have n5 : ¬ C.val - 2048 - 2048 - 2048 - 1024 - 1024 < 1024 := by omega
  have n6 : ¬ C.val - 2048 - 2048 - 2048 - 1024 - 1024 - 1024 < 1024 := by omega
  unfold Ref.out
  rw [Ref.cat_apply, dif_neg n0, dif_neg n1, dif_neg n2, dif_neg n3, dif_neg n4, dif_neg n5, dif_neg n6, Ref.gates_apply, biases_apply b C h0]
  refine congrArg sigm (congrArg₂ (fun a b : EReal => a + b) (congrArg (fun j => A (ix2 R j)) (Fin.ext (by dsimp only; omega))) (congrArg (fun j => b (ix1 j)) (Fin.ext (by dsimp only; omega))))

/-- Every rotated column at once. -/
theorem out_rope (h : C.val < 4096 ∨ 6144 ≤ C.val ∧ C.val < 8192) :
    Ref.out A b dq dk lq lk mq co si (ix2 R C) = rot (fun j => A (ix2 R j)) (128 * (C.val / 128)) (by omega) (fun e => gains dq dk lq lk mq (ix2 0 ⟨128 * (C.val / 128) + e.val, by omega⟩))
      (fun e => co (ix2 R e)) (fun e => si (ix2 R e)) ⟨C.val % 128, Nat.mod_lt _ (by decide)⟩ := by
  by_cases h1 : C.val < 2048
  · exact out_dq A b dq dk lq lk mq co si R C h1
  by_cases h2 : C.val < 4096
  · exact out_dk A b dq dk lq lk mq co si R C (by omega) h2
  by_cases h3 : C.val < 7168
  · exact out_lq A b dq dk lq lk mq co si R C (by omega) h3
  · exact out_lk A b dq dk lq lk mq co si R C (by omega) (by omega)

/-- Every copied column. -/
theorem out_copy (h : 4096 ≤ C.val ∧ C.val < 6144 ∨ 8192 ≤ C.val ∧ C.val < 9216) : Ref.out A b dq dk lq lk mq co si (ix2 R C) = A (ix2 R C) := by
  rcases h with h | h
  · exact out_dv A b dq dk lq lk mq co si R C h.1 h.2
  · exact out_lv A b dq dk lq lk mq co si R C h.1 h.2

end Proj

end
-- ==== Proof.ProjTile.lean ====
/-
  ONE TILE OF THE INPUT PROJECTION over the whole arrays: what a block computes, its row tile and column tile being parts of the arguments.
-/
module

public import proofs.«01_k».proof.Proof.ProjBlock
public import proofs.«01_k».proof.Proof.ProjOut

@[expose] public section

set_option maxRecDepth 16384

noncomputable section

namespace Proj

open Cert.Kernel3Ideal Cert.Kernel3Ideal.Gen Idealize.ShloMosaic Idealize.ShloMosaic.TcCoe

variable {h : FVec Idealize.ShloMosaic.Ideal S16384x2048 .bf16} {W : FVec Idealize.ShloMosaic.Ideal S2048x16384 .f32}
  {G B : FVec Idealize.ShloMosaic.Ideal S1x16384 .f32} {co si : FVec Idealize.ShloMosaic.Ideal S16384x16 .f32}
  {x0 : Vec Idealize.ShloMosaic.Ideal S512x2048 .bf16} {w : Vec Idealize.ShloMosaic.Ideal S2048x1024 .bf16}
  {x2 x3 : Vec Idealize.ShloMosaic.Ideal S1x1024 .f32} {x4 x5 x6 : Vec Idealize.ShloMosaic.Ideal S512x128 .f32}
  {R : Fin 16384} {n : ℕ} (hn : n < 16) {a : Fin 512}

/-- The product of the tiles is the whole product's. -/
theorem prod_tile (hx : ∀ k : Fin 2048, x0 (ix2 a k) = h (ix2 R k))
    (hw : ∀ (k : Fin 2048) (d : Fin 1024), w (ix2 k d) = W (ix2 k ⟨n * 1024 + d.val, by omega⟩))
    (d : Fin 1024) (j : Fin 16384) (hj : j.val = n * 1024 + d.val) :
    (∑ k : Fin 2048, (x0 (ix2 a k) : EReal) * w (ix2 k d)) = Ref.prod h W (ix2 R j) := by
  rw [Ref.prod_apply]
  refine Finset.sum_congr rfl fun k _ => ?_
  rw [hx k, hw k d]
  exact congrArg (fun j => (h (ix2 R k) : EReal) * W (ix2 k j)) (Fin.ext hj.symm)

theorem rope_tile (hx : ∀ k : Fin 2048, x0 (ix2 a k) = h (ix2 R k))
    (hw : ∀ (k : Fin 2048) (d : Fin 1024), w (ix2 k d) = W (ix2 k ⟨n * 1024 + d.val, by omega⟩))
    (hg : ∀ d : Fin 1024, x2 (ix2 0 d) = G (ix2 0 ⟨n * 1024 + d.val, by omega⟩))
    (h4 : ∀ d : Fin 128, x4 (ix2 a d) = cosT co (ix2 R d)) (h5 : ∀ d : Fin 128, x5 (ix2 a d) = saT si (ix2 R d))
    (h6 : ∀ d : Fin 128, x6 (ix2 a d) = sbT si (ix2 R d)) (d : Fin 1024) (C : Fin 16384) (hC : C.val = n * 1024 + d.val) :
    View.canon (ropeB x0 w x2 x4 x5 x6) (ix2 a d)
      = rot (fun j => Ref.prod h W (ix2 R j)) (128 * (C.val / 128)) (by omega) (fun e => G (ix2 0 ⟨128 * (C.val / 128) + e.val, by omega⟩))
        (fun e => co (ix2 R e)) (fun e => si (ix2 R e)) ⟨C.val % 128, Nat.mod_lt _ (by decide)⟩ := by
  have hd := d.isLt
  refine (rope_block x0 w x2 x4 x5 x6 (ix2 a d)).trans ?_
  show ropeAt (k0_pay2 x0 w) (k0_pay14 x2) (k0_pay11 x4) (k0_pay12 x5) (k0_pay13 x6) a (128 * (d.val / 128)) (by omega) ⟨d.val % 128, Nat.mod_lt _ (by decide)⟩ = _
  unfold ropeAt
  rw [id11, id12, id13, h4, h5, h6, cosT_apply, saT_apply, sbT_apply, turn_eq_rope]
  refine rot_of (fun l => ?_) (fun e => ?_) (fun e => rfl) (fun e => rfl) (Fin.ext (by dsimp only; omega))
  · rw [prod_apply]
    exact prod_tile hn hx hw _ _ (by dsimp only; omega)
  · rw [id14, hg]
    exact congrArg (fun j => G (ix2 0 j)) (Fin.ext (by dsimp only; omega))

theorem mem_tile (hx : ∀ k : Fin 2048, x0 (ix2 a k) = h (ix2 R k))
    (hw : ∀ (k : Fin 2048) (d : Fin 1024), w (ix2 k d) = W (ix2 k ⟨n * 1024 + d.val, by omega⟩))
    (hg : ∀ d : Fin 1024, x2 (ix2 0 d) = G (ix2 0 ⟨n * 1024 + d.val, by omega⟩))
    (d : Fin 1024) (C : Fin 16384) (hC : C.val = n * 1024 + d.val) :
    View.canon (memB x0 w x2) (ix2 a d)
      = mem (fun j => Ref.prod h W (ix2 R j)) (256 * (C.val / 256)) (by omega) (G (ix2 0 C)) ⟨C.val % 256, Nat.mod_lt _ (by decide)⟩ := by
  have hd := d.isLt
  refine (mem_block x0 w x2 (ix2 a d)).trans ?_
  show memAt (k0_pay2 x0 w) (k0_pay36 x2) a (256 * (d.val / 256)) (by omega) ⟨d.val % 256, Nat.mod_lt _ (by decide)⟩ = _
  unfold memAt
  refine mem_of (fun l => ?_) ?_ (Fin.ext (by dsimp only; omega))
  · rw [prod_apply]
    exact prod_tile hn hx hw _ _ (by dsimp only; omega)
  · rw [id36, hg]
    exact congrArg (fun j => G (ix2 0 j)) (Fin.ext (by dsimp only; omega))

theorem gate_tile (hx : ∀ k : Fin 2048, x0 (ix2 a k) = h (ix2 R k))
    (hw : ∀ (k : Fin 2048) (d : Fin 1024), w (ix2 k d) = W (ix2 k ⟨n * 1024 + d.val, by omega⟩))
    (hb : ∀ d : Fin 1024, x3 (ix2 0 d) = B (ix2 0 ⟨n * 1024 + d.val, by omega⟩))
    (d : Fin 1024) (C : Fin 16384) (hC : C.val = n * 1024 + d.val) :
    k0_pay9 x0 w x3 (ix2 a d) = sigm ((Ref.prod h W (ix2 R C) : EReal) + B (ix2 0 C)) := by
  rw [gate_apply, prod_tile hn hx hw d C hC, hb]
  exact congrArg (fun j => sigm ((Ref.prod h W (ix2 R C) : EReal) + B (ix2 0 j))) (Fin.ext hC.symm)

theorem copy_tile (hx : ∀ k : Fin 2048, x0 (ix2 a k) = h (ix2 R k))
    (hw : ∀ (k : Fin 2048) (d : Fin 1024), w (ix2 k d) = W (ix2 k ⟨n * 1024 + d.val, by omega⟩))
    (d : Fin 1024) (C : Fin 16384) (hC : C.val = n * 1024 + d.val) :
    k0_pay10 x0 w (ix2 a d) = Ref.prod h W (ix2 R C) :=
  (copy_apply x0 w a d).trans (prod_tile hn hx hw d C hC)

end Proj

end
-- ==== Proof.ProjValue.lean ====
/-
  THE INPUT PROJECTION'S WHOLE RESULT IS THE REFERENCE'S: each point's block by its column tile's kind.
-/
module

public import proofs.«01_k».proof.Proof.ProjFrame
public import proofs.«01_k».proof.Proof.ProjTile
public import Idealize.ShloMosaic.Lib.Pointwise
public import Idealize.ShloMosaic.Lib.Pipeline.ValueKit
public import Idealize.ShloMosaic.Lib.Pipeline.Covers

@[expose] public section

set_option maxRecDepth 16384

noncomputable section

namespace Proj

open Cert.Kernel3Ideal Cert.Kernel3Ideal.Gen Idealize.ShloMosaic Idealize.ShloMosaic.TcCoe Idealize.SL.Sem
open Idealize.ShloMosaic.Pipeline (Dat)

theorem index0 : ∀ t : Fin cfg0.N, win0_0.index t = ![(grid0.coords t 1).val, 0] :=
  (by decide +kernel : ∀ t : Fin grid0.N, _)
theorem index1 : ∀ t : Fin cfg0.N, win0_1.index t = ![0, (grid0.coords t 0).val] :=
  (by decide +kernel : ∀ t : Fin grid0.N, _)
theorem index2 : ∀ t : Fin cfg0.N, win0_2.index t = ![0, (grid0.coords t 0).val] :=
  (by decide +kernel : ∀ t : Fin grid0.N, _)
theorem index3 : ∀ t : Fin cfg0.N, win0_3.index t = ![0, (grid0.coords t 0).val] :=
  (by decide +kernel : ∀ t : Fin grid0.N, _)
theorem index4 : ∀ t : Fin cfg0.N, win0_4.index t = ![(grid0.coords t 1).val, 0] :=
  (by decide +kernel : ∀ t : Fin grid0.N, _)
theorem index5 : ∀ t : Fin cfg0.N, win0_5.index t = ![(grid0.coords t 1).val, 0] :=
  (by decide +kernel : ∀ t : Fin grid0.N, _)
theorem index6 : ∀ t : Fin cfg0.N, win0_6.index t = ![(grid0.coords t 1).val, 0] :=
  (by decide +kernel : ∀ t : Fin grid0.N, _)
theorem index7 : ∀ t : Fin cfg0.N, win0_7.index t = ![(grid0.coords t 1).val, (grid0.coords t 0).val] :=
  (by decide +kernel : ∀ t : Fin grid0.N, _)

/-- The column tiles of each kind. -/
theorem kind2 : ∀ t : Fin cfg0.N, k0_cond2 (grid0.coords t) = 1#1 ↔ ((grid0.coords t 0).val < 4 ∨ 6 ≤ (grid0.coords t 0).val ∧ (grid0.coords t 0).val < 8) :=
  (by decide +kernel : ∀ t : Fin grid0.N, _)
theorem kind3 : ∀ t : Fin cfg0.N, k0_cond3 (grid0.coords t) = 1#1 ↔ (grid0.coords t 0).val = 9 :=
  (by decide +kernel : ∀ t : Fin grid0.N, _)
theorem kind4 : ∀ t : Fin cfg0.N, k0_cond4 (grid0.coords t) = 1#1 ↔ 10 ≤ (grid0.coords t 0).val :=
  (by decide +kernel : ∀ t : Fin grid0.N, _)

/-- The output's block at the point of each position. -/
theorem out_index : ∀ t : Fin grid0.N, cc0_transform_7 (grid0.coords t) = ![t.val % 32, t.val / 32] := by decide +kernel

/-- Block `(x, y)` is the point's of column tile `y` and row tile `x`. -/
theorem out_surj (x y : ℕ) (hx : x < 32) (hy : y < 16) : ∃ i : grid0.Coords, cc0_transform_7 i = ![x, y] := by
  have h : y * 32 + x < grid0.N := lt_of_lt_of_eq (by omega : y * 32 + x < 512) (by decide)
  refine ⟨grid0.coords ⟨y * 32 + x, h⟩, (out_index ⟨y * 32 + x, h⟩).trans ?_⟩
  rw [show (y * 32 + x) % 32 = x by omega, show (y * 32 + x) / 32 = y by omega]

theorem covers : (cfg0.win 7).Covers :=
  (cfg0.win 7).covers_of_indexMap_surj rfl (by decide) fun β => by
    obtain ⟨i, hi⟩ := out_surj (β 0).val (β 1).val (β 0).isLt (β 1).isLt
    exact ⟨i, fun a => by
      refine (congrFun hi a).trans ?_
      fin_cases a <;> rfl⟩

variable (m : (ℓ : Loc nD τ sig) → Buf (Elt Idealize.ShloMosaic.Ideal) ℓ)

/-- What the kernel leaves in its result. -/
abbrev kernelOut (c : Dev nD) : Buf (Elt Idealize.ShloMosaic.Ideal) ((c.tc : Thread nD τ).loc main_v37) := (dats m 0 c).arrAt 7 cfg0.N

set_option maxHeartbeats 400000 in
theorem final (c : Dev nD) :
    kernelOut m c = Ref.ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  refine (dats m 0 c).arrAt_eq_of_covers 7 _ covers fun t hf y => ?_
  blk_simp
  rw [after0_7]
  have b0 : (grid0.coords t 0).val < 16 := (grid0.coords t 0).isLt
  have b1 : (grid0.coords t 1).val < 32 := (grid0.coords t 1).isLt
  have hy0 : (y 0).val < 512 := (y 0).isLt
  have hy1 : (y 1).val < 1024 := (y 1).isLt
  have ey : (win0_7.blk t).view.emb y
      = ix2 (n0 := 16384) (n1 := 16384) ⟨(grid0.coords t 1).val * 512 + (y 0).val, by omega⟩ ⟨(grid0.coords t 0).val * 1024 + (y 1).val, by omega⟩ := by
    blk_ext [index7 t, ix2]
  rw [ey]
  have hx : ∀ k : Fin 2048, iblk m c 0 t (ix2 (n0 := 512) (n1 := 2048) (y 0) k)
      = m ((c.tc : Thread nD τ).loc main_arg0) (ix2 (n0 := 16384) (n1 := 2048) ⟨(grid0.coords t 1).val * 512 + (y 0).val, by omega⟩ k) := by
    intro k; blk_simp [iblk]; rw [V_arg m c main_arg0 (by decide)]; congr 1; blk_ext [index0 t, ix2]
  have hw : ∀ (k : Fin 2048) (d : Fin 1024), held m c t (ix2 k d)
      = m ((c.tc : Thread nD τ).loc main_arg1) (ix2 (n0 := 2048) (n1 := 16384) k ⟨(grid0.coords t 0).val * 1024 + d.val, by omega⟩) := by
    intro k d
    refine (held_apply (iblk m c 1 t) k d).trans ?_
    blk_simp [iblk]; rw [V_arg m c main_arg1 (by decide)]; congr 1; blk_ext [index1 t, ix2]
  have hg : ∀ d : Fin 1024, iblk m c 2 t (ix2 (n0 := 1) (n1 := 1024) 0 d)
      = V m c main_v25 (ix2 (n0 := 1) (n1 := 16384) 0 ⟨(grid0.coords t 0).val * 1024 + d.val, by omega⟩) := by
    intro d; blk_simp [iblk]; congr 1; blk_ext [index2 t, ix2]
  have hb : ∀ d : Fin 1024, iblk m c 3 t (ix2 (n0 := 1) (n1 := 1024) 0 d)
      = V m c main_v28 (ix2 (n0 := 1) (n1 := 16384) 0 ⟨(grid0.coords t 0).val * 1024 + d.val, by omega⟩) := by
    intro d; blk_simp [iblk]; congr 1; blk_ext [index3 t, ix2]
  have h4 : ∀ d : Fin 128, iblk m c 4 t (ix2 (n0 := 512) (n1 := 128) (y 0) d)
      = V m c main_v30 (ix2 (n0 := 16384) (n1 := 128) ⟨(grid0.coords t 1).val * 512 + (y 0).val, by omega⟩ d) := by
    intro d; blk_simp [iblk]; congr 1; blk_ext [index4 t, ix2]
  have h5 : ∀ d : Fin 128, iblk m c 5 t (ix2 (n0 := 512) (n1 := 128) (y 0) d)
      = V m c main_v33 (ix2 (n0 := 16384) (n1 := 128) ⟨(grid0.coords t 1).val * 512 + (y 0).val, by omega⟩ d) := by
    intro d; blk_simp [iblk]; congr 1; blk_ext [index5 t, ix2]
  have h6 : ∀ d : Fin 128, iblk m c 6 t (ix2 (n0 := 512) (n1 := 128) (y 0) d)
      = V m c main_v36 (ix2 (n0 := 16384) (n1 := 128) ⟨(grid0.coords t 1).val * 512 + (y 0).val, by omega⟩ d) := by
    intro d; blk_simp [iblk]; congr 1; blk_ext [index6 t, ix2]
  rw [V_gains] at hg
  rw [V_biases] at hb
  rw [V_cos] at h4
  rw [V_sa] at h5
  rw [V_sb] at h6
  refine (congrArg _ (eq_ix2 (n0 := 512) (n1 := 1024) y)).trans ?_
  unfold outAt outB
  have k2 := kind2 t
  have k3 := kind3 t
  have k4 := kind4 t
  by_cases c2 : k0_cond2 (grid0.coords t) = 1#1
  · have r := k2.mp c2
    rw [if_pos c2]
    exact (rope_tile b0 hx hw hg h4 h5 h6 (y 1) ⟨(grid0.coords t 0).val * 1024 + (y 1).val, by omega⟩ rfl).trans
      (out_rope _ _ _ _ _ _ _ _ _ _ _ (by dsimp only; omega)).symm
  have r2 := mt k2.mpr c2
  rw [if_neg c2]
  by_cases c3 : k0_cond3 (grid0.coords t) = 1#1
  · have r := k3.mp c3
    rw [if_pos c3]
    exact (mem_tile b0 hx hw hg (y 1) ⟨(grid0.coords t 0).val * 1024 + (y 1).val, by omega⟩ rfl).trans
      (out_mq _ _ _ _ _ _ _ _ _ _ _ (by dsimp only; omega) (by dsimp only; omega)).symm
  have r3 := mt k3.mpr c3
  rw [if_neg c3]
  by_cases c4 : k0_cond4 (grid0.coords t) = 1#1
  · have r := k4.mp c4
    rw [if_pos c4]
    exact (gate_tile b0 hx hw hb (y 1) ⟨(grid0.coords t 0).val * 1024 + (y 1).val, by omega⟩ rfl).trans
      (out_gate _ _ _ _ _ _ _ _ _ _ _ (by dsimp only; omega)).symm
  have r4 := mt k4.mpr c4
  rw [if_neg c4]
  exact (copy_tile b0 hx hw (y 1) ⟨(grid0.coords t 0).val * 1024 + (y 1).val, by omega⟩ rfl).trans
    (out_copy _ _ _ _ _ _ _ _ _ _ _ (by dsimp only; omega)).symm

/-- The kernel leaves it, and its arguments as they were. -/
theorem run_value (ρ : Dev nD → PrngReg) : θ_run defs (onTc (τ := τ) (main (F := Idealize.ShloMosaic.Ideal))) ⟨m, fun _ => 0, ρ⟩ fun r => ∀ c : Dev nD,
      r.2.mem ((c.tc : Thread nD τ).loc main_v37) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h.1 c).1 7, h.2 c⟩) (θ_run_and (run_main m ρ) (unchanged m ρ))

end Proj

end
-- ==== Proof.lean ====
/-
  THE CERTIFICATE: the frames, the named mask constant, and that the kernel's whole result is the reference's, from finite arguments; and the same of the
  branch merge and of the input projection, from any arguments.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.Pre
public import Idealize.ShloMosaic.Lib.Quiescent
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Merge
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.ProjValue
public import proofs.«01_k».proof.Proof.PrintFrame
public import Idealize.ShloMosaic.Adequacy
public import Idealize.ShloMosaic.Init

@[expose] public section

noncomputable section

namespace Cert.Proof

open Idealize.ShloMosaic Idealize.SL.Sem

/-- The reference leaves its arguments and every semaphore as it found them. -/
theorem ref_frame [Cert.ReferenceIdeal.Facts] : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

/-- The two results are one array. -/
theorem alg : algebraic_KernelIdeal_ReferenceIdeal_pre_finite (hKernelIdeal := Cert.KernelIdeal.Gen.facts)
    (hReferenceIdeal := Cert.ReferenceIdeal.Gen.facts) (hPre_finite := Attn.preFacts) := by
  intro m g m' g' hpre hag
  haveI := Attn.preFacts
  refine ⟨fun c => Attn.kernelOut m c, Cert.KernelIdeal.Value.run_blocks m g, ?_⟩
  refine (θ_run _ _ _).mono (fun r h c => ⟨(h c).1.trans ?_, (h c).2⟩) (Cert.ReferenceIdeal.Value.run m' g')
  obtain ⟨hX, hY⟩ := Attn.pre_fin _ _ _ (hpre c)
  obtain ⟨e0, e1, e2⟩ := hag c
  refine (Attn.Ref.result_eq m' c).trans ?_
  rw [e0, e1, e2]
  exact (Attn.final m c hX hY).symm

/-- The merge's reference leaves its arguments and every semaphore as it found them. -/
theorem ref_frame2 [Cert.Reference2Ideal.Facts] : Cert.quiescent_Reference2Ideal := fun m ρ _ =>
  (θ_run _ _ _).mono (fun r h => ⟨fun c => (h c).2, Idealize.ShloMosaic.sem_eq_zero_of_no_sems (by decide) r.2⟩)
    (Cert.Reference2Ideal.Value.run m ρ)

/-- The merge's two results are one array. -/
theorem alg2 : algebraic_Kernel2Ideal_Reference2Ideal (hKernel2Ideal := Cert.Kernel2Ideal.Gen.facts)
    (hReference2Ideal := Cert.Reference2Ideal.Gen.facts) := by
  intro m g m' g' _ hag
  refine ⟨fun c => Merge.kernelOut m c, Cert.Kernel2Ideal.Value.run_blocks m g, ?_⟩
  refine (θ_run _ _ _).mono (fun r h c => ⟨(h c).1.trans ?_, (h c).2⟩) (Merge.ref_run m' g')
  obtain ⟨e0, e1, e2, e3, e4, e5, e6⟩ := hag c
  rw [e0, e1, e2, e3, e4, e5, e6]
  exact (Merge.final m c).symm

/-- The projection's reference leaves its arguments and every semaphore as it found them. -/
theorem ref_frame3 [Cert.Reference3Ideal.Facts] : Cert.quiescent_Reference3Ideal := fun m ρ _ =>
  (θ_run _ _ _).mono (fun r h => ⟨fun c => (h c).2, Idealize.ShloMosaic.sem_eq_zero_of_no_sems (by decide) r.2⟩)
    (Cert.Reference3Ideal.Value.run m ρ)

/-- The projection's two results are one array. -/
theorem alg3 : algebraic_Kernel3Ideal_Reference3Ideal (hKernel3Ideal := Cert.Kernel3Ideal.Gen.facts)
    (hReference3Ideal := Cert.Reference3Ideal.Gen.facts) := by
  intro m g m' g' _ hag
  refine ⟨fun c => Proj.kernelOut m c, Proj.run_value m g, ?_⟩
  refine (θ_run _ _ _).mono (fun r h c => ⟨(h c).1.trans ?_, (h c).2⟩) (Proj.Ref.ref_run m' g')
  obtain ⟨e0, e1, e2, e3, e4, e5, e6, e7, e8, e9⟩ := hag c
  rw [e0, e1, e2, e3, e4, e5, e6, e7, e8, e9]
  exact (Proj.final m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Attn.preFacts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Kernel2.Gen.frame m ρ,
    fun m ρ _ => Cert.Kernel2Ideal.Gen.frame m ρ,
    ref_frame2,
    fun m ρ _ => Print.frame m ρ,
    fun m ρ _ => Proj.frame m ρ,
    ref_frame3,
    IdealRules.named_const.statement _ _ _ _ _ rfl,
    alg,
    trivial,
    alg2,
    trivial,
    alg3⟩

end Cert.Proof

end
